-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x32x64 : S_.BroadcastsInDim S2x256x32x64 (![] : Fin 0 → Fin S2x256x32x64.rank)

variable [Facts]

def fn {F : FTy → Type} [FloatOps F] (main_arg0 : FVec F S2x256x512 .f32) (main_arg1 : FVec F S512x256 .f32) (main_arg2 : FVec F S2x256x32x64 .f32) (main_arg3 : FVec F S2x256x32x64 .f32) (main_arg4 : FVec F S256x512 .f32) : IVec S2x256x512 1 × IVec S512x256 1 × IVec S2x256x32x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x256x32x64 .f32 := Host.absf main_arg2
  let main_cst_1 : FVec F S_ .f32 := constant S_ .f32 0x7F800000#32
  let main_v7 : FVec F S2x256x32x64 .f32 := broadcastInDim S2x256x32x64 ![] bcast_S_S2x256x32x64 main_cst_1
  let main_v8 : IVec S2x256x32x64 1 := cmpf .olt main_v6 main_v7
  (main_v2, main_v5, main_v8)
-- ==== Pre_finite_ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S_ : Shape := ⟨0, ![]⟩

class Facts : Prop where
  bcast_S_S2x256x512 : S_.BroadcastsInDim S2x256x512 (![] : Fin 0 → Fin S2x256x512.rank)
  bcast_S_S512x2048 : S_.BroadcastsInDim S512x2048 (![] : Fin 0 → Fin S512x2048.rank)
  bcast_S_S2x256x32x64 : S_.BroadcastsInDim S2x256x32x64 (![] : Fin 0 → Fin S2x256x32x64.rank)

variable [Facts]

def fn {F : FTy → Type} [FloatOps F] (main_arg0 : FVec F S2x256x512 .f32) (main_arg1 : FVec F S512x2048 .f32) (main_arg2 : FVec F S2x256x32x64 .f32) (main_arg3 : FVec F S2x256x32x64 .f32) (main_arg4 : FVec F S2048x512 .f32) : IVec S2x256x512 1 × IVec S512x2048 1 × IVec S2x256x32x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x2048 .f32 := Host.absf main_arg1
  let main_cst_0 : FVec F S_ .f32 := constant S_ .f32 0x7F800000#32
  let main_v4 : FVec F S512x2048 .f32 := broadcastInDim S512x2048 ![] bcast_S_S512x2048 main_cst_0
  let main_v5 : IVec S512x2048 1 := cmpf .olt main_v3 main_v4
  let main_v6 : FVec F S2x256x32x64 .f32 := Host.absf main_arg2
  let main_cst_1 : FVec F S_ .f32 := constant S_ .f32 0x7F800000#32
  let main_v7 : FVec F S2x256x32x64 .f32 := broadcastInDim S2x256x32x64 ![] bcast_S_S2x256x32x64 main_cst_1
  let main_v8 : IVec S2x256x32x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S_ : Shape := ⟨0, ![]⟩
abbrev S2x256x2048 : Shape := ⟨3, ![2, 256, 2048]⟩
abbrev S2x256x256 : Shape := ⟨3, ![2, 256, 256]⟩
abbrev S8x2x32x512 : Shape := ⟨4, ![8, 2, 32, 512]⟩
abbrev S8 : Shape := ⟨1, ![8]⟩
abbrev S256x256 : Shape := ⟨2, ![256, 256]⟩
abbrev S1x256x512 : Shape := ⟨3, ![1, 256, 512]⟩
abbrev S256x64 : Shape := ⟨2, ![256, 64]⟩
abbrev S1x256x64 : Shape := ⟨3, ![1, 256, 64]⟩
abbrev S256 : Shape := ⟨1, ![256]⟩
abbrev S256x1 : Shape := ⟨2, ![256, 1]⟩
abbrev S1 : Shape := ⟨1, ![1]⟩
abbrev S1x2x32x512 : Shape := ⟨4, ![1, 2, 32, 512]⟩
abbrev S2x32x512 : Shape := ⟨3, ![2, 32, 512]⟩

abbrev nBuf : Space → Nat
  | .hbm => 34
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x32x64, .f32⟩
  | .hbm, ⟨3, _⟩ => ⟨S2x256x32x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x256x2048, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x256, .f32⟩
  | .hbm, ⟨22, _⟩ => ⟨S2x256x2048, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x256, .f32⟩
  | .hbm, ⟨33, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x256, .f32⟩
  | .local _ .vmem, ⟨3, _⟩ => ⟨S2x256x256, .f32⟩
  | .local _ .vmem, ⟨4, _⟩ => ⟨S256x512, .f32⟩
  | .local _ .vmem, ⟨5, _⟩ => ⟨S2x256x512, .f32⟩
  | .local _ .vmem, ⟨6, _⟩ => ⟨S2x256x512, .f32⟩
  | .local _ .vmem, ⟨7, _⟩ => ⟨S8x2x32x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_c_9 : Ref sig .tc := ⟨.hbm, 30, rfl⟩
abbrev main_c_10 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c4_i32_185 : BitVec 32) : Fin 3 → Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v309 : BitVec 32 := Scalar.addi v2 c4_i32_185
  let c8_i32_186 : BitVec 32 := 8#32
  let c0_i32_187 : BitVec 32 := 0#32
  let v310 : BitVec 1 := Scalar.cmpi .eq c8_i32_186 c0_i32_187
  let c1_i32_188 : BitVec 32 := 1#32
  let v311 : BitVec 32 := Scalar.select v310 c1_i32_188 c8_i32_186
  let v312 : BitVec 32 := Scalar.remsi v309 v311
  let c0_i32_190 : BitVec 32 := 0#32
  let v314 : BitVec 1 := Scalar.cmpi .slt v312 c0_i32_190
  let c0_i32_191 : BitVec 32 := 0#32
  let v315 : BitVec 1 := Scalar.cmpi .slt v311 c0_i32_191
  let v316 : BitVec 1 := Scalar.xori v314 v315
  let c0_i32_189 : BitVec 32 := 0#32
  let v313 : BitVec 1 := Scalar.cmpi .ne v312 c0_i32_189
  let v317 : BitVec 1 := Scalar.andi v316 v313
  let v318 : BitVec 32 := Scalar.addi v312 v311
  let v319 : BitVec 32 := Scalar.select v317 v318 v312
  let c32_i32 : BitVec 32 := 32#32
  let v320 : BitVec 32 := Scalar.muli v319 c32_i32
  let c0_i32_201 : BitVec 32 := 0#32
  ![0, v320.toNat, 0]
def k0_dev8 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_185 : BitVec 32 := 4#32
  let v309 : BitVec 32 := Scalar.addi v2 c4_i32_185
  let c8_i32_186 : BitVec 32 := 8#32
  let c0_i32_187 : BitVec 32 := 0#32
  let v310 : BitVec 1 := Scalar.cmpi .eq c8_i32_186 c0_i32_187
  let c1_i32_188 : BitVec 32 := 1#32
  let v311 : BitVec 32 := Scalar.select v310 c1_i32_188 c8_i32_186
  let v312 : BitVec 32 := Scalar.remsi v309 v311
  let c0_i32_190 : BitVec 32 := 0#32
  let v314 : BitVec 1 := Scalar.cmpi .slt v312 c0_i32_190
  let c0_i32_191 : BitVec 32 := 0#32
  let v315 : BitVec 1 := Scalar.cmpi .slt v311 c0_i32_191
  let v316 : BitVec 1 := Scalar.xori v314 v315
  let c0_i32_189 : BitVec 32 := 0#32
  let v313 : BitVec 1 := Scalar.cmpi .ne v312 c0_i32_189
  let v317 : BitVec 1 := Scalar.andi v316 v313
  let v318 : BitVec 32 := Scalar.addi v312 v311
  let v319 : BitVec 32 := Scalar.select v317 v318 v312
  let c1_i32_195 : BitVec 32 := 1#32
  let v321 : BitVec 32 := Scalar.muli v319 c1_i32_195
  let v322 : BitVec 32 := Scalar.addi c0_i32_196 v321
  v322.toNat
def k0_dev9 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_202 : BitVec 32 := 3#32
  let v330 : BitVec 32 := Scalar.addi v2 c3_i32_202
  let c8_i32_203 : BitVec 32 := 8#32
  let c0_i32_204 : BitVec 32 := 0#32
  let v331 : BitVec 1 := Scalar.cmpi .eq c8_i32_203 c0_i32_204
  let c1_i32_205 : BitVec 32 := 1#32
  let v332 : BitVec 32 := Scalar.select v331 c1_i32_205 c8_i32_203
  let v333 : BitVec 32 := Scalar.remsi v330 v332
  let c0_i32_207 : BitVec 32 := 0#32
  let v335 : BitVec 1 := Scalar.cmpi .slt v333 c0_i32_207
  let c0_i32_208 : BitVec 32 := 0#32
  let v336 : BitVec 1 := Scalar.cmpi .slt v332 c0_i32_208
  let v337 : BitVec 1 := Scalar.xori v335 v336
  let c0_i32_206 : BitVec 32 := 0#32
  let v334 : BitVec 1 := Scalar.cmpi .ne v333 c0_i32_206
  let v338 : BitVec 1 := Scalar.andi v337 v334
  let v339 : BitVec 32 := Scalar.addi v333 v332
  let v340 : BitVec 32 := Scalar.select v338 v339 v333
  let c1_i32_213 : BitVec 32 := 1#32
  let v342 : BitVec 32 := Scalar.muli v340 c1_i32_213
  let v343 : BitVec 32 := Scalar.addi c0_i32_214 v342
  v343.toNat
def k0_dev10 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_220 : BitVec 32 := 5#32
  let v351 : BitVec 32 := Scalar.addi v2 c5_i32_220
  let c8_i32_221 : BitVec 32 := 8#32
  let c0_i32_222 : BitVec 32 := 0#32
  let v352 : BitVec 1 := Scalar.cmpi .eq c8_i32_221 c0_i32_222
  let c1_i32_223 : BitVec 32 := 1#32
  let v353 : BitVec 32 := Scalar.select v352 c1_i32_223 c8_i32_221
  let v354 : BitVec 32 := Scalar.remsi v351 v353
  let c0_i32_225 : BitVec 32 := 0#32
  let v356 : BitVec 1 := Scalar.cmpi .slt v354 c0_i32_225
  let c0_i32_226 : BitVec 32 := 0#32
  let v357 : BitVec 1 := Scalar.cmpi .slt v353 c0_i32_226
  let v358 : BitVec 1 := Scalar.xori v356 v357
  let c0_i32_224 : BitVec 32 := 0#32
  let v355 : BitVec 1 := Scalar.cmpi .ne v354 c0_i32_224
  let v359 : BitVec 1 := Scalar.andi v358 v355
  let v360 : BitVec 32 := Scalar.addi v354 v353
  let v361 : BitVec 32 := Scalar.select v359 v360 v354
  let c1_i32_231 : BitVec 32 := 1#32
  let v363 : BitVec 32 := Scalar.muli v361 c1_i32_231
  let v364 : BitVec 32 := Scalar.addi c0_i32_232 v363
  v364.toNat
def k0_dev11 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_238 : BitVec 32 := 2#32
  let v372 : BitVec 32 := Scalar.addi v2 c2_i32_238
  let c8_i32_239 : BitVec 32 := 8#32
  let c0_i32_240 : BitVec 32 := 0#32
  let v373 : BitVec 1 := Scalar.cmpi .eq c8_i32_239 c0_i32_240
  let c1_i32_241 : BitVec 32 := 1#32
  let v374 : BitVec 32 := Scalar.select v373 c1_i32_241 c8_i32_239
  let v375 : BitVec 32 := Scalar.remsi v372 v374
  let c0_i32_243 : BitVec 32 := 0#32
  let v377 : BitVec 1 := Scalar.cmpi .slt v375 c0_i32_243
  let c0_i32_244 : BitVec 32 := 0#32
  let v378 : BitVec 1 := Scalar.cmpi .slt v374 c0_i32_244
  let v379 : BitVec 1 := Scalar.xori v377 v378
  let c0_i32_242 : BitVec 32 := 0#32
  let v376 : BitVec 1 := Scalar.cmpi .ne v375 c0_i32_242
  let v380 : BitVec 1 := Scalar.andi v379 v376
  let v381 : BitVec 32 := Scalar.addi v375 v374
  let v382 : BitVec 32 := Scalar.select v380 v381 v375
  let c1_i32_249 : BitVec 32 := 1#32
  let v384 : BitVec 32 := Scalar.muli v382 c1_i32_249
  let v385 : BitVec 32 := Scalar.addi c0_i32_250 v384
  v385.toNat
def k0_dev12 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_256 : BitVec 32 := 6#32
  let v393 : BitVec 32 := Scalar.addi v2 c6_i32_256
  let c8_i32_257 : BitVec 32 := 8#32
  let c0_i32_258 : BitVec 32 := 0#32
  let v394 : BitVec 1 := Scalar.cmpi .eq c8_i32_257 c0_i32_258
  let c1_i32_259 : BitVec 32 := 1#32
  let v395 : BitVec 32 := Scalar.select v394 c1_i32_259 c8_i32_257
  let v396 : BitVec 32 := Scalar.remsi v393 v395
  let c0_i32_261 : BitVec 32 := 0#32
  let v398 : BitVec 1 := Scalar.cmpi .slt v396 c0_i32_261
  let c0_i32_262 : BitVec 32 := 0#32
  let v399 : BitVec 1 := Scalar.cmpi .slt v395 c0_i32_262
  let v400 : BitVec 1 := Scalar.xori v398 v399
  let c0_i32_260 : BitVec 32 := 0#32
  let v397 : BitVec 1 := Scalar.cmpi .ne v396 c0_i32_260
  let v401 : BitVec 1 := Scalar.andi v400 v397
  let v402 : BitVec 32 := Scalar.addi v396 v395
  let v403 : BitVec 32 := Scalar.select v401 v402 v396
  let c1_i32_267 : BitVec 32 := 1#32
  let v405 : BitVec 32 := Scalar.muli v403 c1_i32_267
  let v406 : BitVec 32 := Scalar.addi c0_i32_268 v405
  v406.toNat
def k0_dev13 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_274 : BitVec 32 := 1#32
  let v414 : BitVec 32 := Scalar.addi v2 c1_i32_274
  let c8_i32_275 : BitVec 32 := 8#32
  let c0_i32_276 : BitVec 32 := 0#32
  let v415 : BitVec 1 := Scalar.cmpi .eq c8_i32_275 c0_i32_276
  let c1_i32_277 : BitVec 32 := 1#32
  let v416 : BitVec 32 := Scalar.select v415 c1_i32_277 c8_i32_275
  let v417 : BitVec 32 := Scalar.remsi v414 v416
  let c0_i32_279 : BitVec 32 := 0#32
  let v419 : BitVec 1 := Scalar.cmpi .slt v417 c0_i32_279
  let c0_i32_280 : BitVec 32 := 0#32
  let v420 : BitVec 1 := Scalar.cmpi .slt v416 c0_i32_280
  let v421 : BitVec 1 := Scalar.xori v419 v420
  let c0_i32_278 : BitVec 32 := 0#32
  let v418 : BitVec 1 := Scalar.cmpi .ne v417 c0_i32_278
  let v422 : BitVec 1 := Scalar.andi v421 v418
  let v423 : BitVec 32 := Scalar.addi v417 v416
  let v424 : BitVec 32 := Scalar.select v422 v423 v417
  let c1_i32_285 : BitVec 32 := 1#32
  let v426 : BitVec 32 := Scalar.muli v424 c1_i32_285
  let v427 : BitVec 32 := Scalar.addi c0_i32_286 v426
  v427.toNat
def k0_dev14 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_292 : BitVec 32 := 7#32
  let v435 : BitVec 32 := Scalar.addi v2 c7_i32_292
  let c8_i32_293 : BitVec 32 := 8#32
  let c0_i32_294 : BitVec 32 := 0#32
  let v436 : BitVec 1 := Scalar.cmpi .eq c8_i32_293 c0_i32_294
  let c1_i32_295 : BitVec 32 := 1#32
  let v437 : BitVec 32 := Scalar.select v436 c1_i32_295 c8_i32_293
  let v438 : BitVec 32 := Scalar.remsi v435 v437
  let c0_i32_297 : BitVec 32 := 0#32
  let v440 : BitVec 1 := Scalar.cmpi .slt v438 c0_i32_297
  let c0_i32_298 : BitVec 32 := 0#32
  let v441 : BitVec 1 := Scalar.cmpi .slt v437 c0_i32_298
  let v442 : BitVec 1 := Scalar.xori v440 v441
  let c0_i32_296 : BitVec 32 := 0#32
  let v439 : BitVec 1 := Scalar.cmpi .ne v438 c0_i32_296
  let v443 : BitVec 1 := Scalar.andi v442 v439
  let v444 : BitVec 32 := Scalar.addi v438 v437
  let v445 : BitVec 32 := Scalar.select v443 v444 v438
  let c1_i32_303 : BitVec 32 := 1#32
  let v447 : BitVec 32 := Scalar.muli v445 c1_i32_303
  let v448 : BitVec 32 := Scalar.addi c0_i32_304 v447
  v448.toNat
def k0_off2 (d0 : Dev nD) : Fin 3 → Nat :=
  let c0_311 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_310 : BitVec 32 := 32#32
  let v456 : BitVec 32 := Scalar.muli v2 c32_i32_310
  let v457 : Index := Scalar.indexCast v456
  let c0_312 : Index := 0#32
  ![0, v457.toNat, 0]
def k0_off3 (d0 : Dev nD) : Fin 3 → Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_479 : BitVec 32 := 32#32
  let v579 : BitVec 32 := Scalar.muli v2 c32_i32_479
  let c0_i32_485 : BitVec 32 := 0#32
  ![0, v579.toNat, 0]
def k0_dev15 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_471 : BitVec 32 := 4#32
  let v567 : BitVec 32 := Scalar.addi v2 c4_i32_471
  let c8_i32_472 : BitVec 32 := 8#32
  let c0_i32_473 : BitVec 32 := 0#32
  let v568 : BitVec 1 := Scalar.cmpi .eq c8_i32_472 c0_i32_473
  let c1_i32_474 : BitVec 32 := 1#32
  let v569 : BitVec 32 := Scalar.select v568 c1_i32_474 c8_i32_472
  let v570 : BitVec 32 := Scalar.remsi v567 v569
  let c0_i32_476 : BitVec 32 := 0#32
  let v572 : BitVec 1 := Scalar.cmpi .slt v570 c0_i32_476
  let c0_i32_477 : BitVec 32 := 0#32
  let v573 : BitVec 1 := Scalar.cmpi .slt v569 c0_i32_477
  let v574 : BitVec 1 := Scalar.xori v572 v573
  let c0_i32_475 : BitVec 32 := 0#32
  let v571 : BitVec 1 := Scalar.cmpi .ne v570 c0_i32_475
  let v575 : BitVec 1 := Scalar.andi v574 v571
  let v576 : BitVec 32 := Scalar.addi v570 v569
  let v577 : BitVec 32 := Scalar.select v575 v576 v570
  let c1_i32_482 : BitVec 32 := 1#32
  let v580 : BitVec 32 := Scalar.muli v577 c1_i32_482
  let v581 : BitVec 32 := Scalar.addi c0_i32_483 v580
  v581.toNat
def k0_dev16 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_488 : BitVec 32 := 3#32
  let v588 : BitVec 32 := Scalar.addi v2 c3_i32_488
  let c8_i32_489 : BitVec 32 := 8#32
  let c0_i32_490 : BitVec 32 := 0#32
  let v589 : BitVec 1 := Scalar.cmpi .eq c8_i32_489 c0_i32_490
  let c1_i32_491 : BitVec 32 := 1#32
  let v590 : BitVec 32 := Scalar.select v589 c1_i32_491 c8_i32_489
  let v591 : BitVec 32 := Scalar.remsi v588 v590
  let c0_i32_493 : BitVec 32 := 0#32
  let v593 : BitVec 1 := Scalar.cmpi .slt v591 c0_i32_493
  let c0_i32_494 : BitVec 32 := 0#32
  let v594 : BitVec 1 := Scalar.cmpi .slt v590 c0_i32_494
  let v595 : BitVec 1 := Scalar.xori v593 v594
  let c0_i32_492 : BitVec 32 := 0#32
  let v592 : BitVec 1 := Scalar.cmpi .ne v591 c0_i32_492
  let v596 : BitVec 1 := Scalar.andi v595 v592
  let v597 : BitVec 32 := Scalar.addi v591 v590
  let v598 : BitVec 32 := Scalar.select v596 v597 v591
  let c1_i32_499 : BitVec 32 := 1#32
  let v601 : BitVec 32 := Scalar.muli v598 c1_i32_499
  let v602 : BitVec 32 := Scalar.addi c0_i32_500 v601
  v602.toNat
def k0_dev17 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_505 : BitVec 32 := 5#32
  let v609 : BitVec 32 := Scalar.addi v2 c5_i32_505
  let c8_i32_506 : BitVec 32 := 8#32
  let c0_i32_507 : BitVec 32 := 0#32
  let v610 : BitVec 1 := Scalar.cmpi .eq c8_i32_506 c0_i32_507
  let c1_i32_508 : BitVec 32 := 1#32
  let v611 : BitVec 32 := Scalar.select v610 c1_i32_508 c8_i32_506
  let v612 : BitVec 32 := Scalar.remsi v609 v611
  let c0_i32_510 : BitVec 32 := 0#32
  let v614 : BitVec 1 := Scalar.cmpi .slt v612 c0_i32_510
  let c0_i32_511 : BitVec 32 := 0#32
  let v615 : BitVec 1 := Scalar.cmpi .slt v611 c0_i32_511
  let v616 : BitVec 1 := Scalar.xori v614 v615
  let c0_i32_509 : BitVec 32 := 0#32
  let v613 : BitVec 1 := Scalar.cmpi .ne v612 c0_i32_509
  let v617 : BitVec 1 := Scalar.andi v616 v613
  let v618 : BitVec 32 := Scalar.addi v612 v611
  let v619 : BitVec 32 := Scalar.select v617 v618 v612
  let c1_i32_516 : BitVec 32 := 1#32
  let v622 : BitVec 32 := Scalar.muli v619 c1_i32_516
  let v623 : BitVec 32 := Scalar.addi c0_i32_517 v622
  v623.toNat
def k0_dev18 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_522 : BitVec 32 := 2#32
  let v630 : BitVec 32 := Scalar.addi v2 c2_i32_522
  let c8_i32_523 : BitVec 32 := 8#32
  let c0_i32_524 : BitVec 32 := 0#32
  let v631 : BitVec 1 := Scalar.cmpi .eq c8_i32_523 c0_i32_524
  let c1_i32_525 : BitVec 32 := 1#32
  let v632 : BitVec 32 := Scalar.select v631 c1_i32_525 c8_i32_523
  let v633 : BitVec 32 := Scalar.remsi v630 v632
  let c0_i32_527 : BitVec 32 := 0#32
  let v635 : BitVec 1 := Scalar.cmpi .slt v633 c0_i32_527
  let c0_i32_528 : BitVec 32 := 0#32
  let v636 : BitVec 1 := Scalar.cmpi .slt v632 c0_i32_528
  let v637 : BitVec 1 := Scalar.xori v635 v636
  let c0_i32_526 : BitVec 32 := 0#32
  let v634 : BitVec 1 := Scalar.cmpi .ne v633 c0_i32_526
  let v638 : BitVec 1 := Scalar.andi v637 v634
  let v639 : BitVec 32 := Scalar.addi v633 v632
  let v640 : BitVec 32 := Scalar.select v638 v639 v633
  let c1_i32_533 : BitVec 32 := 1#32
  let v643 : BitVec 32 := Scalar.muli v640 c1_i32_533
  let v644 : BitVec 32 := Scalar.addi c0_i32_534 v643
  v644.toNat
def k0_dev19 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_539 : BitVec 32 := 6#32
  let v651 : BitVec 32 := Scalar.addi v2 c6_i32_539
  let c8_i32_540 : BitVec 32 := 8#32
  let c0_i32_541 : BitVec 32 := 0#32
  let v652 : BitVec 1 := Scalar.cmpi .eq c8_i32_540 c0_i32_541
  let c1_i32_542 : BitVec 32 := 1#32
  let v653 : BitVec 32 := Scalar.select v652 c1_i32_542 c8_i32_540
  let v654 : BitVec 32 := Scalar.remsi v651 v653
  let c0_i32_544 : BitVec 32 := 0#32
  let v656 : BitVec 1 := Scalar.cmpi .slt v654 c0_i32_544
  let c0_i32_545 : BitVec 32 := 0#32
  let v657 : BitVec 1 := Scalar.cmpi .slt v653 c0_i32_545
  let v658 : BitVec 1 := Scalar.xori v656 v657
  let c0_i32_543 : BitVec 32 := 0#32
  let v655 : BitVec 1 := Scalar.cmpi .ne v654 c0_i32_543
  let v659 : BitVec 1 := Scalar.andi v658 v655
  let v660 : BitVec 32 := Scalar.addi v654 v653
  let v661 : BitVec 32 := Scalar.select v659 v660 v654
  let c1_i32_550 : BitVec 32 := 1#32
  let v664 : BitVec 32 := Scalar.muli v661 c1_i32_550
  let v665 : BitVec 32 := Scalar.addi c0_i32_551 v664
  v665.toNat
def k0_dev20 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_556 : BitVec 32 := 1#32
  let v672 : BitVec 32 := Scalar.addi v2 c1_i32_556
  let c8_i32_557 : BitVec 32 := 8#32
  let c0_i32_558 : BitVec 32 := 0#32
  let v673 : BitVec 1 := Scalar.cmpi .eq c8_i32_557 c0_i32_558
  let c1_i32_559 : BitVec 32 := 1#32
  let v674 : BitVec 32 := Scalar.select v673 c1_i32_559 c8_i32_557
  let v675 : BitVec 32 := Scalar.remsi v672 v674
  let c0_i32_561 : BitVec 32 := 0#32
  let v677 : BitVec 1 := Scalar.cmpi .slt v675 c0_i32_561
  let c0_i32_562 : BitVec 32 := 0#32
  let v678 : BitVec 1 := Scalar.cmpi .slt v674 c0_i32_562
  let v679 : BitVec 1 := Scalar.xori v677 v678
  let c0_i32_560 : BitVec 32 := 0#32
  let v676 : BitVec 1 := Scalar.cmpi .ne v675 c0_i32_560
  let v680 : BitVec 1 := Scalar.andi v679 v676
  let v681 : BitVec 32 := Scalar.addi v675 v674
  let v682 : BitVec 32 := Scalar.select v680 v681 v675
  let c1_i32_567 : BitVec 32 := 1#32
  let v685 : BitVec 32 := Scalar.muli v682 c1_i32_567
  let v686 : BitVec 32 := Scalar.addi c0_i32_568 v685
  v686.toNat
def k0_dev21 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_573 : BitVec 32 := 7#32
  let v693 : BitVec 32 := Scalar.addi v2 c7_i32_573
  let c8_i32_574 : BitVec 32 := 8#32
  let c0_i32_575 : BitVec 32 := 0#32
  let v694 : BitVec 1 := Scalar.cmpi .eq c8_i32_574 c0_i32_575
  let c1_i32_576 : BitVec 32 := 1#32
  let v695 : BitVec 32 := Scalar.select v694 c1_i32_576 c8_i32_574
  let v696 : BitVec 32 := Scalar.remsi v693 v695
  let c0_i32_578 : BitVec 32 := 0#32
  let v698 : BitVec 1 := Scalar.cmpi .slt v696 c0_i32_578
  let c0_i32_579 : BitVec 32 := 0#32
  let v699 : BitVec 1 := Scalar.cmpi .slt v695 c0_i32_579
  let v700 : BitVec 1 := Scalar.xori v698 v699
  let c0_i32_577 : BitVec 32 := 0#32
  let v697 : BitVec 1 := Scalar.cmpi .ne v696 c0_i32_577
  let v701 : BitVec 1 := Scalar.andi v700 v697
  let v702 : BitVec 32 := Scalar.addi v696 v695
  let v703 : BitVec 32 := Scalar.select v701 v702 v696
  let c1_i32_584 : BitVec 32 := 1#32
  let v706 : BitVec 32 := Scalar.muli v703 c1_i32_584
  let v707 : BitVec 32 := Scalar.addi c0_i32_585 v706
  v707.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S2x256x2048 : Shape := ⟨3, ![2, 256, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x32x256x256 : Shape := ⟨4, ![2, 32, 256, 256]⟩
abbrev S1x1x256x256 : Shape := ⟨4, ![1, 1, 256, 256]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 123
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x2048, .f32⟩
  | .hbm, ⟨2, _⟩ => ⟨S2x256x32x64, .f32⟩
  | .hbm, ⟨3, _⟩ => ⟨S2x256x32x64, .f32⟩
  | .hbm, ⟨4, _⟩ => ⟨S2048x512, .f32⟩
  | .hbm, ⟨5, _⟩ => ⟨S2x256x2048, .f32⟩
  | .hbm, ⟨6, _⟩ => ⟨S2x256x32x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S_, .i32⟩
  | .hbm, ⟨51, _⟩ => ⟨S1x256, .i32⟩
  | .hbm, ⟨52, _⟩ => ⟨S1x256, .i1⟩
  | .hbm, ⟨53, _⟩ => ⟨S256x256, .i1⟩
  | .hbm, ⟨54, _⟩ => ⟨S256x256, .i1⟩
  | .hbm, ⟨55, _⟩ => ⟨S256x256, .i32⟩
  | .hbm, ⟨56, _⟩ => ⟨S256x256, .i32⟩
  | .hbm, ⟨57, _⟩ => ⟨S256x256, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i1⟩
  | .hbm, ⟨69, _⟩ => ⟨S_, .i32⟩
  | .hbm, ⟨70, _⟩ => ⟨S256x256, .i32⟩
  | .hbm, ⟨71, _⟩ => ⟨S256x256, .i1⟩
  | .hbm, ⟨72, _⟩ => ⟨S_, .i32⟩
  | .hbm, ⟨73, _⟩ => ⟨S_, .i1⟩
  | .hbm, ⟨74, _⟩ => ⟨S256x256, .i1⟩
  | .hbm, ⟨75, _⟩ => ⟨S256x256, .i1⟩
  | .hbm, ⟨76, _⟩ => ⟨S256x256, .i1⟩
  | .hbm, ⟨77, _⟩ => ⟨S256x256, .i32⟩
  | .hbm, ⟨78, _⟩ => ⟨S256x256, .i32⟩
  | .hbm, ⟨79, _⟩ => ⟨S256x256, .i32⟩
  | .hbm, ⟨80, _⟩ => ⟨S_, .i32⟩
  | .hbm, ⟨81, _⟩ => ⟨S256x256, .i32⟩
  | .hbm, ⟨82, _⟩ => ⟨S256x256, .i1⟩
  | .hbm, ⟨83, _⟩ => ⟨S256x256, .i1⟩
  | .hbm, ⟨84, _⟩ => ⟨S2x32x256x256, .f32⟩
  | .hbm, ⟨85, _⟩ => ⟨S_, .f32⟩
  | .hbm, ⟨86, _⟩ => ⟨S2x32x256x256, .f32⟩
  | .hbm, ⟨87, _⟩ => ⟨S2x32x256x256, .f32⟩
  | .hbm, ⟨88, _⟩ => ⟨S1x1x256x256, .i1⟩
  | .hbm, ⟨89, _⟩ => ⟨S_, .f32⟩
  | .hbm, ⟨90, _⟩ => ⟨S_, .f32⟩
  | .hbm, ⟨91, _⟩ => ⟨S2x32x256x256, .i1⟩
  | .hbm, ⟨92, _⟩ => ⟨S2x32x256x256, .f32⟩
  | .hbm, ⟨93, _⟩ => ⟨S2x32x256x256, .f32⟩
  | .hbm, ⟨94, _⟩ => ⟨S_, .f32⟩
  | .hbm, ⟨95, _⟩ => ⟨S2x32x256, .f32⟩
  | .hbm, ⟨96, _⟩ => ⟨S2x32x256x1, .f32⟩
  | .hbm, ⟨97, _⟩ => ⟨S2x32x256x256, .f32⟩
  | .hbm, ⟨98, _⟩ => ⟨S2x32x256x256, .f32⟩
  | .hbm, ⟨99, _⟩ => ⟨S2x32x256x256, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S2x32x256, .f32⟩
  | .hbm, ⟨105, _⟩ => ⟨S2x32x256x1, .f32⟩
  | .hbm, ⟨106, _⟩ => ⟨S_, .f32⟩
  | .hbm, ⟨107, _⟩ => ⟨S_, .f32⟩
  | .hbm, ⟨108, _⟩ => ⟨S2x32x256x1, .i1⟩
  | .hbm, ⟨109, _⟩ => ⟨S2x32x256x1, .f32⟩
  | .hbm, ⟨110, _⟩ => ⟨S2x32x256x1, .f32⟩
  | .hbm, ⟨111, _⟩ => ⟨S2x32x256x256, .f32⟩
  | .hbm, ⟨112, _⟩ => ⟨S2x32x256x256, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S2x32x256x256, .i1⟩
  | .hbm, ⟨117, _⟩ => ⟨S2x32x256x256, .f32⟩
  | .hbm, ⟨118, _⟩ => ⟨S2x32x256x256, .f32⟩
  | .hbm, ⟨119, _⟩ => ⟨S2x32x64x256, .f32⟩
  | .hbm, ⟨120, _⟩ => ⟨S2x256x32x64, .f32⟩
  | .hbm, ⟨121, _⟩ => ⟨S2x256x2048, .f32⟩
  | .hbm, ⟨122, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.KernelIdeal.Sets.lean ====
/- The devices a kernel of `KernelIdeal` names, the blocks of its buffers that a copy moves, and which elements they are. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Rounds
public import Idealize.ShloMosaic.Lib.Ring
public import Idealize.ShloMosaic.Lib.Tactic

@[expose] public section

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-! ## The devices -/

/-- The signal's seven targets and the two exchanges' fourteen, each an offset from the sender. -/
theorem dev_sig : ∀ c : Dev nD, k0_dev1 c = (c + 1).val ∧ k0_dev2 c = (c + 2).val ∧ k0_dev3 c = (c + 3).val ∧ k0_dev4 c = (c + 4).val
    ∧ k0_dev5 c = (c + 5).val ∧ k0_dev6 c = (c + 6).val ∧ k0_dev7 c = (c + 7).val := by decide +kernel
theorem dev_one : ∀ c : Dev nD, k0_dev8 c = (c + 4).val ∧ k0_dev9 c = (c + 3).val ∧ k0_dev10 c = (c + 5).val ∧ k0_dev11 c = (c + 2).val
    ∧ k0_dev12 c = (c + 6).val ∧ k0_dev13 c = (c + 1).val ∧ k0_dev14 c = (c + 7).val := by decide +kernel
theorem dev_two : ∀ c : Dev nD, k0_dev15 c = (c + 4).val ∧ k0_dev16 c = (c + 3).val ∧ k0_dev17 c = (c + 5).val ∧ k0_dev18 c = (c + 2).val
    ∧ k0_dev19 c = (c + 6).val ∧ k0_dev20 c = (c + 1).val ∧ k0_dev21 c = (c + 7).val := by decide +kernel

/-- The rows sent to the device at offset `o`, and the sender's own. -/
theorem off1_eq : ∀ (c : Dev nD) (o : Fin 8), k0_off1 c (BitVec.ofNat 32 o.val) = ![0, 32 * (c + o : Fin 8).val, 0] := by decide +kernel
theorem off2_eq : ∀ c : Dev nD, k0_off2 c = ![0, 32 * c.val, 0] := by decide +kernel
theorem off3_eq : ∀ c : Dev nD, k0_off3 c = ![0, 32 * c.val, 0] := by decide +kernel

theorem rows_inb (k : Fin 8) : ∀ a, (![0, 32 * k.val, 0] : Fin 3 → Nat) a + S2x32x512.size a ≤ S2x256x512.size a := by
  revert k; decide
theorem slot_inb (o : Fin 8) : ∀ a, (![o.val, 0, 0, 0] : Fin 4 → Nat) a + S1x2x32x512.size a ≤ S8x2x32x512.size a := by
  revert o; decide

/-! ## The buffers of the kernel -/

abbrev xM : Memref sig .tc .vmem S2x256x512 .f32 := Memref.whole cc0_stg0_0
abbrev qM : Memref sig .tc .vmem S512x256 .f32 := Memref.whole cc0_stg1_0
abbrev kM : Memref sig .tc .vmem S2x256x256 .f32 := Memref.whole cc0_stg2_0
abbrev vM : Memref sig .tc .vmem S2x256x256 .f32 := Memref.whole cc0_stg3_0
abbrev wM : Memref sig .tc .vmem S256x512 .f32 := Memref.whole cc0_stg4_0
abbrev outM : Memref sig .tc .vmem S2x256x512 .f32 := Memref.whole cc0_stg5_0
abbrev pM : Memref sig .tc .vmem S2x256x512 .f32 := Memref.whole cc0_scratch0
abbrev rM : Memref sig .tc .vmem S8x2x32x512 .f32 := Memref.whole cc0_scratch1

/-- Block `k` of a [2,256,512] buffer: rows 32k … 32k+31 of both batches. -/
def rowBlk (k : Fin 8) : Finset S2x256x512.Idx := Finset.univ.filter fun i => (i 1).val / 32 = k.val
/-- Slot `o` of the landing buffer. -/
def slotBlk (o : Fin 8) : Finset S8x2x32x512.Idx := Finset.univ.filter fun i => (i 0).val = o.val

theorem mem_rowBlk {k : Fin 8} {i : S2x256x512.Idx} : i ∈ rowBlk k ↔ (i 1).val / 32 = k.val := by
  unfold rowBlk; rw [Finset.mem_filter]; exact ⟨fun h => h.2, fun h => ⟨Finset.mem_univ _, h⟩⟩
theorem mem_slotBlk {o : Fin 8} {i : S8x2x32x512.Idx} : i ∈ slotBlk o ↔ (i 0).val = o.val := by
  unfold slotBlk; rw [Finset.mem_filter]; exact ⟨fun h => h.2, fun h => ⟨Finset.mem_univ _, h⟩⟩

theorem rowBlk_disjoint {k l : Fin 8} (h : k ≠ l) : Disjoint (rowBlk k) (rowBlk l) := by
  rw [Finset.disjoint_left]; intro i h₁ h₂
  rw [mem_rowBlk] at h₁ h₂; exact h (Fin.ext (h₁.symm.trans h₂))
theorem slotBlk_disjoint {k l : Fin 8} (h : k ≠ l) : Disjoint (slotBlk k) (slotBlk l) := by
  rw [Finset.disjoint_left]; intro i h₁ h₂
  rw [mem_slotBlk] at h₁ h₂; exact h (Fin.ext (h₁.symm.trans h₂))

/-- The block an index lies in, and the slot. -/
def blkOf (i : S2x256x512.Idx) : Fin 8 := ⟨(i 1).val / 32, by have := (i 1).isLt; have h : S2x256x512.size 1 = 256 := rfl; omega⟩
def slotOf (i : S8x2x32x512.Idx) : Fin 8 := ⟨(i 0).val, (i 0).isLt⟩
theorem rowBlk_cover (i : S2x256x512.Idx) : ∃ k, i ∈ rowBlk k := ⟨blkOf i, mem_rowBlk.mpr rfl⟩
theorem slotBlk_cover (i : S8x2x32x512.Idx) : ∃ k, i ∈ slotBlk k := ⟨slotOf i, mem_slotBlk.mpr rfl⟩

/-- The rectangle of block `k`, and of slot `o`. -/
abbrev rowRect (k : Fin 8) : Rect S2x256x512 := Rect.unit (s := S2x256x512) ![0, 32 * k.val, 0] S2x32x512.size (rows_inb k)
abbrev slotRect (o : Fin 8) : Rect S8x2x32x512 := Rect.unit (s := S8x2x32x512) ![o.val, 0, 0, 0] S1x2x32x512.size (slot_inb o)

theorem rowRect_set (k : Fin 8) : (rowRect k).set = rowBlk k := by
  ext i
  rw [mem_rowBlk, Rect.mem_set_unit]
  have h0 := (i 0).isLt; have h1 := (i 1).isLt; have h2 := (i 2).isLt
  have e0 : S2x256x512.size 0 = 2 := rfl
  have e1 : S2x256x512.size 1 = 256 := rfl
  have e2 : S2x256x512.size 2 = 512 := rfl
  constructor
  · intro h
    have := h 1
    have a1 : (![0, 32 * k.val, 0] : Fin 3 → Nat) 1 = 32 * k.val := rfl
    have a2 : S2x32x512.size 1 = 32 := rfl
    rw [a1, a2] at this; omega
  · intro h a
    fin_cases a
    · show 0 ≤ (i 0).val ∧ (i 0).val < 0 + 2
      omega
    · show 32 * k.val ≤ (i 1).val ∧ (i 1).val < 32 * k.val + 32
      omega
    · show 0 ≤ (i 2).val ∧ (i 2).val < 0 + 512
      omega

theorem slotRect_set (o : Fin 8) : (slotRect o).set = slotBlk o := by
  ext i
  rw [mem_slotBlk, Rect.mem_set_unit]
  have h0 := (i 0).isLt; have h1 := (i 1).isLt; have h2 := (i 2).isLt; have h3 := (i 3).isLt
  have e0 : S8x2x32x512.size 0 = 8 := rfl
  have e1 : S8x2x32x512.size 1 = 2 := rfl
  have e2 : S8x2x32x512.size 2 = 32 := rfl
  have e3 : S8x2x32x512.size 3 = 512 := rfl
  constructor
  · intro h
    have := h 0
    have a1 : (![o.val, 0, 0, 0] : Fin 4 → Nat) 0 = o.val := rfl
    have a2 : S1x2x32x512.size 0 = 1 := rfl
    rw [a1, a2] at this; omega
  · intro h a
    fin_cases a
    · show o.val ≤ (i 0).val ∧ (i 0).val < o.val + 1
      omega
    · show 0 ≤ (i 1).val ∧ (i 1).val < 0 + 2
      omega
    · show 0 ≤ (i 2).val ∧ (i 2).val < 0 + 32
      omega
    · show 0 ≤ (i 3).val ∧ (i 3).val < 0 + 512
      omega

/-- Row `j` of block `k`, and element `j` of slot `o`. -/
def rowAt (k : Fin 8) (j : S2x32x512.Idx) : S2x256x512.Idx := (rowRect k).emb j
def slotAt (o : Fin 8) (j : S2x32x512.Idx) : S8x2x32x512.Idx :=
  (slotRect o).emb (Fin.cons (⟨0, Nat.one_pos⟩ : Fin 1) j : S1x2x32x512.Idx)
theorem rowAt_mem (k : Fin 8) (j : S2x32x512.Idx) : rowAt k j ∈ rowBlk k := by
  rw [← rowRect_set, ← Rect.map_emb_univ]; exact Finset.mem_map_of_mem _ (Finset.mem_univ j)
theorem slotAt_mem (o : Fin 8) (j : S2x32x512.Idx) : slotAt o j ∈ slotBlk o := by
  rw [← slotRect_set, ← Rect.map_emb_univ]; exact Finset.mem_map_of_mem _ (Finset.mem_univ _)
/-- The place of an index within its block. -/
def inRow (i : S2x256x512.Idx) : S2x32x512.Idx
  | 0 => i 0
  | 1 => (⟨(i 1).val % 32, Nat.mod_lt _ (by decide)⟩ : Fin 32)
  | 2 => i 2
def inSlot (i : S8x2x32x512.Idx) : S2x32x512.Idx
  | 0 => i 1
  | 1 => i 2
  | 2 => i 3
theorem rowAt_inRow {k : Fin 8} {i : S2x256x512.Idx} (h : i ∈ rowBlk k) : rowAt k (inRow i) = i := by
  rw [mem_rowBlk] at h
  funext a; apply Fin.ext
  fin_cases a
  · show 0 + 1 * (i 0).val = (i 0).val
    omega
  · show 32 * k.val + 1 * ((i 1).val % 32) = (i 1).val
    omega
  · show 0 + 1 * (i 2).val = (i 2).val
    omega
theorem slotAt_inSlot {o : Fin 8} {i : S8x2x32x512.Idx} (h : i ∈ slotBlk o) : slotAt o (inSlot i) = i := by
  rw [mem_slotBlk] at h
  funext a; apply Fin.ext
  fin_cases a
  · show o.val + 1 * 0 = (i 0).val
    omega
  · show 0 + 1 * (i 1).val = (i 1).val
    omega
  · show 0 + 1 * (i 2).val = (i 2).val
    omega
  · show 0 + 1 * (i 3).val = (i 3).val
    omega
theorem inSlot_slotAt (o : Fin 8) (j : S2x32x512.Idx) : inSlot (slotAt o j) = j := by
  funext a; apply Fin.ext
  fin_cases a
  · show 0 + 1 * (j 0).val = (j 0).val
    omega
  · show 0 + 1 * (j 1).val = (j 1).val
    omega
  · show 0 + 1 * (j 2).val = (j 2).val
    omega
theorem inRow_rowAt (k : Fin 8) (j : S2x32x512.Idx) : inRow (rowAt k j) = j := by
  have h1 := (j 1).isLt; have e1 : S2x32x512.size 1 = 32 := rfl
  funext a; apply Fin.ext
  fin_cases a
  · show 0 + 1 * (j 0).val = (j 0).val
    omega
  · show (32 * k.val + 1 * (j 1).val) % 32 = (j 1).val
    omega
  · show 0 + 1 * (j 2).val = (j 2).val
    omega
theorem blkOf_rowAt (k : Fin 8) (j : S2x32x512.Idx) : blkOf (rowAt k j) = k := Fin.ext (mem_rowBlk.mp (rowAt_mem k j))
theorem slotOf_slotAt (o : Fin 8) (j : S2x32x512.Idx) : slotOf (slotAt o j) = o := Fin.ext (mem_slotBlk.mp (slotAt_mem o j))
theorem blkOf_eq {k : Fin 8} {i : S2x256x512.Idx} (h : i ∈ rowBlk k) : blkOf i = k := Fin.ext (mem_rowBlk.mp h)
theorem slotOf_eq {o : Fin 8} {i : S8x2x32x512.Idx} (h : i ∈ slotBlk o) : slotOf i = o := Fin.ext (mem_slotBlk.mp h)

variable [Facts]

/-- Block `k` of the accumulator of partial products, of the result, and slot `o` of the landing buffer, as views. -/
abbrev pS (k : Fin 8) : Memref sig .tc .vmem S2x32x512 .f32 := pM.slice (rowRect k) (fun _ => rfl)
abbrev outS (k : Fin 8) : Memref sig .tc .vmem S2x32x512 .f32 := outM.slice (rowRect k) (fun _ => rfl)
abbrev rS (o : Fin 8) : Memref sig .tc .vmem S2x32x512 .f32 :=
  (rM.slice (slotRect o) (fun _ => rfl)).squeeze S2x32x512 squeezes_S1x2x32x512_S2x32x512

theorem pS_set (k : Fin 8) : (pS k).view.set = rowBlk k := (View.set_slice_whole _ _).trans (rowRect_set k)
theorem outS_set (k : Fin 8) : (outS k).view.set = rowBlk k := (View.set_slice_whole _ _).trans (rowRect_set k)
theorem rS_set (o : Fin 8) : (rS o).view.set = slotBlk o :=
  (View.set_reshape _ _).trans ((View.set_slice_whole _ _).trans (slotRect_set o))

theorem rS_emb (o : Fin 8) (j : S2x32x512.Idx) : (rS o).view.emb j = slotAt o j := by
  show (slotRect o).emb (Shape.reshapeEquiv _ j) = _
  exact congrArg _ (Shape.reshapeEquiv_cons_one (d := ![2, 32, 512]) _ j)

/-- A copy of block `k` of the partial products into slot `o` leaves the block's row in the slot. -/
theorem land_eq (k o : Fin 8) (fd : S8x2x32x512.Idx → Elt F .f32) (fs : S2x256x512.Idx → Elt F .f32) {i : S8x2x32x512.Idx} (h : i ∈ slotBlk o) :
    (rS o).view.write (Elt F) fd ((pS k).view.read (Elt F) fs) Finset.univ i = fs (rowAt k (inSlot i)) := by
  obtain ⟨j, rfl⟩ : ∃ j, slotAt o j = i := ⟨inSlot i, slotAt_inSlot h⟩
  rw [inSlot_slotAt, ← rS_emb]
  exact View.write_emb_of_mem (v := (rS o).view) (Val := Elt F) fd _ (Finset.mem_univ j)

/-- A copy of block `k` of the result into block `k` leaves the block. -/
theorem gather_eq (k : Fin 8) (fd fs : S2x256x512.Idx → Elt F .f32) {i : S2x256x512.Idx} (h : i ∈ rowBlk k) :
    (outS k).view.write (Elt F) fd ((outS k).view.read (Elt F) fs) Finset.univ i = fs i := by
  obtain ⟨j, rfl⟩ : ∃ j, rowAt k j = i := ⟨inRow i, rowAt_inRow h⟩
  exact View.write_emb_of_mem (v := (outS k).view) (Val := Elt F) fd _ (Finset.mem_univ j)

end Cert.KernelIdeal.Hand

end
-- ==== Proof.KernelIdeal.Values.lean ====
/- What the buffers of a kernel of `KernelIdeal` hold: a device's partial product, what lands from the others, the sum of a
   block, and the gathered result. -/
module

public import proofs.«01_k».proof.Proof.KernelIdeal.Sets

@[expose] public section

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F] [Facts]

/-- What a load of the rectangle `r` reads from contents `f`. -/
def ld {S : Shape} (f : S.Idx → Elt F .f32) (r : Rect S) : r.shape.Idx → Elt F .f32 := fun j => f (r.emb j)

section Partial

variable (x : S2x256x512.Idx → Elt F .f32) (q : S512x256.Idx → Elt F .f32) (k v : S2x256x256.Idx → Elt F .f32)
  (w : S256x512.Idx → Elt F .f32)

/-! The rectangles loaded: batch `b` of x, the whole of the two weights, head `h` of batch `b` of k or v. -/

abbrev rX0 : Rect S2x256x512 := Rect.unit (s := S2x256x512) ![0, 0, 0] S1x256x512.size inb_S2x256x512_S1x256x512_0_0_0
abbrev rX1 : Rect S2x256x512 := Rect.unit (s := S2x256x512) ![1, 0, 0] S1x256x512.size inb_S2x256x512_S1x256x512_1_0_0
abbrev rQ : Rect S512x256 := Rect.unit (s := S512x256) ![0, 0] S512x256.size inb_S512x256_S512x256_0_0
abbrev rW : Rect S256x512 := Rect.unit (s := S256x512) ![0, 0] S256x512.size inb_S256x512_S256x512_0_0
abbrev rH00 : Rect S2x256x256 := Rect.unit (s := S2x256x256) ![0, 0, 0] S1x256x64.size inb_S2x256x256_S1x256x64_0_0_0
abbrev rH01 : Rect S2x256x256 := Rect.unit (s := S2x256x256) ![0, 0, 64] S1x256x64.size inb_S2x256x256_S1x256x64_0_0_64
abbrev rH02 : Rect S2x256x256 := Rect.unit (s := S2x256x256) ![0, 0, 128] S1x256x64.size inb_S2x256x256_S1x256x64_0_0_128
abbrev rH03 : Rect S2x256x256 := Rect.unit (s := S2x256x256) ![0, 0, 192] S1x256x64.size inb_S2x256x256_S1x256x64_0_0_192
abbrev rH10 : Rect S2x256x256 := Rect.unit (s := S2x256x256) ![1, 0, 0] S1x256x64.size inb_S2x256x256_S1x256x64_1_0_0
abbrev rH11 : Rect S2x256x256 := Rect.unit (s := S2x256x256) ![1, 0, 64] S1x256x64.size inb_S2x256x256_S1x256x64_1_0_64
abbrev rH12 : Rect S2x256x256 := Rect.unit (s := S2x256x256) ![1, 0, 128] S1x256x64.size inb_S2x256x256_S1x256x64_1_0_128
abbrev rH13 : Rect S2x256x256 := Rect.unit (s := S2x256x256) ![1, 0, 192] S1x256x64.size inb_S2x256x256_S1x256x64_1_0_192

/-- The three words of the block mask and the mask itself. -/
abbrev iot : IVec S256x256 32 := iota .tc S256x256 32 [0] iota_S256x256_d0_w32
abbrev mk2 : IVec S256x256 32 := k0_pay2 iot 64#32 k0_pay1 0#32
abbrev mk4 : IVec S256x256 1 := k0_pay4 iot 64#32 k0_pay1 0#32
abbrev msk : IVec S256x256 1 := k0_pay5 mk2 k0_pay3 mk4

/-- Batch 0 and batch 1 of the partial product. -/
def row0 : S1x256x512.Idx → Elt F .f32 :=
  k0_pay12 msk (k0_pay8 (k0_pay7 mk2 k0_pay3 mk4 (ld x rX0) (ld q rQ) (ld k rH00)) (ld v rH00))
    (k0_pay9 msk (k0_pay6 (ld x rX0) (ld q rQ)) (ld k rH01) (ld v rH01)) (k0_pay10 msk (k0_pay6 (ld x rX0) (ld q rQ)) (ld k rH02) (ld v rH02))
    (k0_pay11 (k0_pay6 (ld x rX0) (ld q rQ))) (ld k rH03) (ld v rH03) (ld w rW)
def row1 : S1x256x512.Idx → Elt F .f32 :=
  k0_pay20 msk (k0_pay13 (ld x rX1) (ld q rQ)) (k0_pay15 (k0_pay14 msk (ld x rX1) (ld q rQ) (ld k rH10)) (ld v rH10))
    (k0_pay16 msk (k0_pay13 (ld x rX1) (ld q rQ)) (ld k rH11) (ld v rH11)) (k0_pay18 msk (k0_pay13 (ld x rX1) (ld q rQ)) (ld k rH12) (ld v rH12))
    (k0_pay19 msk (k0_pay13 (ld x rX1) (ld q rQ)) (ld k rH12)) (ld k rH13) (ld v rH13) (ld w rW)

/-- The place of an index within its batch. -/
def inBatch (i : S2x256x512.Idx) : S1x256x512.Idx
  | 0 => (0 : Fin 1)
  | 1 => i 1
  | 2 => i 2

/-- The device's partial product. -/
def part : S2x256x512.Idx → Elt F .f32 := fun i => if (i 0).val = 0 then row0 x q k v w (inBatch i) else row1 x q k v w (inBatch i)

theorem rX0_emb_inBatch {i : S2x256x512.Idx} (h : (i 0).val = 0) : rX0.emb (inBatch i) = i := by
  funext a; apply Fin.ext
  fin_cases a
  · show 0 + 1 * 0 = (i 0).val
    omega
  · show 0 + 1 * (i 1).val = (i 1).val
    omega
  · show 0 + 1 * (i 2).val = (i 2).val
    omega
theorem rX1_emb_inBatch {i : S2x256x512.Idx} (h : (i 0).val = 1) : rX1.emb (inBatch i) = i := by
  funext a; apply Fin.ext
  fin_cases a
  · show 1 + 1 * 0 = (i 0).val
    omega
  · show 0 + 1 * (i 1).val = (i 1).val
    omega
  · show 0 + 1 * (i 2).val = (i 2).val
    omega
theorem rX1_not_mem {i : S2x256x512.Idx} (h : (i 0).val = 0) : i ∉ (pM.access rX1).setOn Finset.univ := by
  intro hm
  obtain ⟨j, -, hj⟩ := Finset.mem_map.mp hm
  have e : ((pM.access rX1).emb j 0 : ℕ) = 1 + 1 * (j 0).val := rfl
  rw [hj] at e; omega

/-- The two stores leave the partial product, whatever was there. -/
theorem stores_eq (f : S2x256x512.Idx → Elt F .f32) :
    (pM.access rX1).write (Elt F) ((pM.access rX0).write (Elt F) f (row0 x q k v w) Finset.univ) (row1 x q k v w) Finset.univ = part x q k v w := by
  funext i
  have h2 : (i 0).val < 2 := (i 0).isLt
  unfold part
  by_cases h : (i 0).val = 0
  · rw [if_pos h, View.write_of_not_mem _ _ _ (rX1_not_mem h)]
    conv_lhs => rw [← rX0_emb_inBatch h]
    exact View.write_emb_of_mem (v := pM.access rX0) (Val := Elt F) f _ (Finset.mem_univ _)
  · rw [if_neg h]
    conv_lhs => rw [← rX1_emb_inBatch (i := i) (by omega)]
    exact View.write_emb_of_mem (v := pM.access rX1) (Val := Elt F) _ _ (Finset.mem_univ _)

end Partial

section Exchange

theorem addsub : ∀ c o : Fin 8, c + o - o = c := by decide
theorem subadd : ∀ c o : Fin 8, c - o + o = c := by decide

variable (P : Dev nD → S2x256x512.Idx → Elt F .f32)

/-- What device `c`'s landing buffer holds: in slot `o`, block `c` of the partial product of the device `o` before it. -/
def landR (c : Dev nD) : S8x2x32x512.Idx → Elt F .f32 := fun i => P ((c - slotOf i : Fin 8)) (rowAt c (inSlot i))

/-- The sum of block `c` over the devices, in the order in which device `c` adds. -/
def acc (c : Dev nD) : S2x32x512.Idx → Elt F .f32 :=
  k0_pay24 (k0_pay23 (k0_pay22 (k0_pay21 (ld (P c) (rowRect c)) (ld (landR P c) (slotRect 1)))
      (ld (landR P c) (slotRect 2)) (ld (landR P c) (slotRect 3)))
    (ld (landR P c) (slotRect 4)) (ld (landR P c) (slotRect 5)) (ld (landR P c) (slotRect 6)))
    (ld (landR P c) (slotRect 7))

/-- The result: every block at its sum. -/
def gath : S2x256x512.Idx → Elt F .f32 := fun i => acc P (blkOf i) (inRow i)

/-- The copy from the device `o` before `c`, of its block `c`, leaves `landR` in slot `o`. -/
theorem landR_eq (c o : Fin 8) (fd : S8x2x32x512.Idx → Elt F .f32) {i : S8x2x32x512.Idx} (h : i ∈ slotBlk o) :
    (rS o).view.write (Elt F) fd ((pS (c + o)).view.read (Elt F) (P c)) Finset.univ i = landR P (c + o : Fin 8) i := by
  rw [land_eq _ _ _ _ h]; unfold landR; rw [slotOf_eq h]
  exact congrArg (fun d : Dev nD => P d (rowAt (c + o) (inSlot i))) (addsub c o).symm

/-- The store of the sum leaves `gath` on the device's own block. -/
theorem store_acc (c : Dev nD) (f : S2x256x512.Idx → Elt F .f32) {i : S2x256x512.Idx} (h : i ∈ rowBlk c) :
    (outM.access (rowRect c)).write (Elt F) f (acc P c) Finset.univ i = gath P i := by
  unfold gath; rw [blkOf_eq h]
  conv_lhs => rw [← rowAt_inRow h]
  exact View.write_emb_of_mem (v := outM.access (rowRect c)) (Val := Elt F) f _ (Finset.mem_univ _)

end Exchange

end Cert.KernelIdeal.Hand

end
-- ==== Proof.KernelIdeal.Protocol.lean ====
/- The protocol of a kernel of `KernelIdeal`: who pays into which semaphore, in which round, and what comes with the payment;
   what each device owes at the start; the order in which it may wait. -/
module

public import proofs.«01_k».proof.Proof.KernelIdeal.Values
public import Idealize.ShloMosaic.Lib.Rounds
public import Idealize.ShloMosaic.Lib.Tactic
public import Idealize.ShloMosaic.Lib.SparseCore.Stream

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! ## The state, the cells -/

abbrev UB : Type := URounds (GSem nD τ sig) (Fin 8)
abbrev UU : Type := UR sig nD τ × UB

variable {F : FTy → Type} [FloatOps F] [Facts]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barS : Sem sig := barrier0
/-- The send semaphore of offset `o`, and the receive semaphores of the two exchanges. -/
abbrev sS (o : Fin 8) : DmaSem sig := (⟨6 + o.val, by have := o.isLt; show 6 + o.val < 30; omega⟩ : Fin 30)
abbrev aS (o : Fin 8) : DmaSem sig := (⟨14 + o.val, by have := o.isLt; show 14 + o.val < 30; omega⟩ : Fin 30)
abbrev bS (o : Fin 8) : DmaSem sig := (⟨22 + o.val, by have := o.isLt; show 22 + o.val < 30; omega⟩ : Fin 30)
abbrev barC (c : Dev nD) : GSem nD τ sig := ((c : Thread nD τ), .reg barS)
abbrev sC (c : Dev nD) (o : Fin 8) : GSem nD τ sig := ((c : Thread nD τ), .dma (sS o))
abbrev aC (c : Dev nD) (o : Fin 8) : GSem nD τ sig := ((c : Thread nD τ), .dma (aS o))
abbrev bC (c : Dev nD) (o : Fin 8) : GSem nD τ sig := ((c : Thread nD τ), .dma (bS o))

/-- The amount of one copy. -/
abbrev N : ℕ := (rS 0).view.dmaCredit
theorem N_pos : 0 < N := View.dmaCredit_pos _ (by decide)

/-! ## The holdings that move -/

abbrev pPt (c : Dev nD) (k : Fin 8) (f : S2x256x512.Idx → Elt F .f32) : sProp 𝕄 :=
  iprop((pS k).view.loc (c : Thread nD τ) ↦[rowBlk k]{fullShare} f)
abbrev oPt (c : Dev nD) (k : Fin 8) (q : PosShare TreeShare) (f : S2x256x512.Idx → Elt F .f32) : sProp 𝕄 :=
  iprop((outS k).view.loc (c : Thread nD τ) ↦[rowBlk k]{q} f)
abbrev rPt (c : Dev nD) (o : Fin 8) (f : S8x2x32x512.Idx → Elt F .f32) : sProp 𝕄 :=
  iprop((rS o).view.loc (c : Thread nD τ) ↦[slotBlk o]{fullShare} f)
/-- The eighth of a block that the send at offset `o` reads under. -/
abbrev eighth (o : Fin 8) : PosShare TreeShare := Idealize.ShloMosaic.pieceOf fullShare 8 (by decide) o

variable (P : Dev nD → S2x256x512.Idx → Elt F .f32)

/-- Device `c`'s barrier, from the device `d` after it: that device's slot `d` and its block `c`, to be written, with its two
    receive semaphores open. -/
def barPay (c : Dev nD) (d : Fin 8) : sProp 𝕄 :=
  iprop((∃ f, rPt (c + d : Fin 8) d f) ∗ (∃ f, oPt (c + d : Fin 8) c fullShare f)
    ∗ reached ER (aC (c + d : Fin 8) d) 0 ∗ reached ER (bC (c + d : Fin 8) d) 0)
/-- The first send's block back, the second's share back; what lands in the two exchanges. -/
def sPay0 (c : Dev nD) (o : Fin 8) : sProp 𝕄 := pPt c (c + o : Fin 8) (P c)
def sPay1 (c : Dev nD) (o : Fin 8) : sProp 𝕄 := oPt c c (eighth o) (gath P)
def aPay (c : Dev nD) (o : Fin 8) : sProp 𝕄 := rPt c o (landR P c)
def bPay (c : Dev nD) (o : Fin 8) : sProp 𝕄 := oPt c (c - o : Fin 8) fullShare (gath P)

def dix : SemLoc sig → ℕ
  | .reg _ => 0
  | .dma s => s.val

/-- The schedule: a barrier takes seven units in its one round; a send semaphore two rounds of one copy; a receive semaphore one. -/
def Rd : Schedule (GSem nD τ sig) (Fin 8) 𝕄 where
  duties g r :=
    if g.1.2 ≠ .tc then ∅
    else if g.2 = .reg barS then (if r = 0 then Finset.univ.erase 0 else ∅)
    else if dix g.2 < 6 then ∅
    else if (dix g.2 - 6) % 8 = 0 then ∅
    else if dix g.2 < 14 then (if r < 2 then {0} else ∅)
    else (if r = 0 then {0} else ∅)
  unitless _ := False
  amount g _ _ := if g.2 = .reg barS then 1 else N
  payload g r d :=
    if g.2 = .reg barS then barPay g.1.1 d
    else if dix g.2 < 14 then
      (if r = 0 then sPay0 P g.1.1 (Fin.ofNat 8 (dix g.2 - 6)) else sPay1 P g.1.1 (Fin.ofNat 8 (dix g.2 - 6)))
    else if dix g.2 < 22 then aPay P g.1.1 (Fin.ofNat 8 (dix g.2 - 14))
    else bPay P g.1.1 (Fin.ofNat 8 (dix g.2 - 22))
  amount_pos g _ _ _ := by
    split
    · decide
    · exact N_pos

instance Rd_storable (g : GSem nD τ sig) (r : ℕ) (d : Fin 8) :
    BI.Storable (upEmb : UEmb _ 𝕄) ((Rd P).payload g r d) := by
  show BI.Storable (upEmb : UEmb _ 𝕄) (if g.2 = .reg barS then barPay g.1.1 d
    else if dix g.2 < 14 then
      (if r = 0 then sPay0 P g.1.1 (Fin.ofNat 8 (dix g.2 - 6)) else sPay1 P g.1.1 (Fin.ofNat 8 (dix g.2 - 6)))
    else if dix g.2 < 22 then aPay P g.1.1 (Fin.ofNat 8 (dix g.2 - 14))
    else bPay P g.1.1 (Fin.ofNat 8 (dix g.2 - 22)))
  unfold barPay sPay0 sPay1 aPay bPay
  (repeat' split) <;> infer_instance

section Cells

variable (c : Dev nD) (o d : Fin 8)

theorem dix_s : dix (sC c o).2 = 6 + o.val := rfl
theorem dix_a : dix (aC c o).2 = 14 + o.val := rfl
theorem dix_b : dix (bC c o).2 = 22 + o.val := rfl
theorem dix_dma (s : DmaSem sig) : dix ((c : Thread nD τ), SemLoc.dma s).2 = s.val := rfl
theorem dma_ne (s : DmaSem sig) : (SemLoc.dma s : SemLoc sig) ≠ .reg barS := fun h => by cases h

theorem duties_bar : (Rd (F := F) P).duties (barC c) 0 = Finset.univ.erase 0 := by
  dsimp only [Rd]; rw [if_neg (by simp), if_pos rfl, if_pos rfl]
theorem duties_bar_later (r : ℕ) (h : 1 ≤ r) : (Rd (F := F) P).duties (barC c) r = ∅ := by
  dsimp only [Rd]; rw [if_neg (by simp), if_pos rfl, if_neg (by omega)]

/-- The offsets that send. -/
theorem idx_ne {o : Fin 8} (h : o ≠ 0) : o.val % 8 ≠ 0 := by
  have : o.val ≠ 0 := fun e => h (Fin.ext e)
  omega

theorem duties_s {o : Fin 8} (h : o ≠ 0) (r : ℕ) (hr : r < 2) : (Rd (F := F) P).duties (sC c o) r = {0} := by
  have ho := o.isLt; have h0 := idx_ne h
  dsimp only [Rd]
  rw [dix_s c o, if_neg (by simp), if_neg (dma_ne _), if_neg (by omega), if_neg (by omega), if_pos (by omega), if_pos hr]
theorem duties_a {o : Fin 8} (h : o ≠ 0) : (Rd (F := F) P).duties (aC c o) 0 = {0} := by
  have ho := o.isLt; have h0 := idx_ne h
  dsimp only [Rd]
  rw [dix_a c o, if_neg (by simp), if_neg (dma_ne _), if_neg (by omega), if_neg (by omega), if_neg (by omega), if_pos rfl]
theorem duties_b {o : Fin 8} (h : o ≠ 0) : (Rd (F := F) P).duties (bC c o) 0 = {0} := by
  have ho := o.isLt; have h0 := idx_ne h
  dsimp only [Rd]
  rw [dix_b c o, if_neg (by simp), if_neg (dma_ne _), if_neg (by omega), if_neg (by omega), if_neg (by omega), if_pos rfl]
theorem duties_zero (s : DmaSem sig) (h : (s.val - 6) % 8 = 0) (r : ℕ) : (Rd (F := F) P).duties ((c : Thread nD τ), .dma s) r = ∅ := by
  dsimp only [Rd]
  rw [dix_dma c s, if_neg (by simp), if_neg (dma_ne _)]
  split
  · rfl
  · simp only [h, if_true]
theorem duties_later1 (s : DmaSem sig) (h : 14 ≤ s.val) (r : ℕ) (hr : 1 ≤ r) : (Rd (F := F) P).duties ((c : Thread nD τ), .dma s) r = ∅ := by
  dsimp only [Rd]
  rw [dix_dma c s, if_neg (by simp), if_neg (dma_ne _), if_neg (by omega)]
  split
  · rfl
  · rw [if_neg (by omega), if_neg (by omega)]
theorem duties_later2 (s : DmaSem sig) (r : ℕ) (hr : 2 ≤ r) : (Rd (F := F) P).duties ((c : Thread nD τ), .dma s) r = ∅ := by
  dsimp only [Rd]
  rw [dix_dma c s, if_neg (by simp), if_neg (dma_ne _)]
  (repeat' split) <;> first | rfl | omega

theorem amount_bar (r : ℕ) : (Rd (F := F) P).amount (barC c) r d = 1 := by dsimp only [Rd]; exact if_pos rfl
theorem amount_dma (s : DmaSem sig) (r : ℕ) : (Rd (F := F) P).amount ((c : Thread nD τ), .dma s) r d = N := by dsimp only [Rd]; exact if_neg (dma_ne s)

theorem expect_bar : (Rd (F := F) P).expect (barC c) 0 = 7 := by
  unfold Schedule.expect Schedule.amountOf
  rw [duties_bar, Finset.sum_congr rfl fun d _ => amount_bar P c d 0]; decide
theorem expect_s {o : Fin 8} (h : o ≠ 0) (r : ℕ) (hr : r < 2) : (Rd (F := F) P).expect (sC c o) r = N := by
  unfold Schedule.expect Schedule.amountOf; rw [duties_s P c h r hr, Finset.sum_singleton, amount_dma]
theorem expect_a {o : Fin 8} (h : o ≠ 0) : (Rd (F := F) P).expect (aC c o) 0 = N := by
  unfold Schedule.expect Schedule.amountOf; rw [duties_a P c h, Finset.sum_singleton, amount_dma]
theorem expect_b {o : Fin 8} (h : o ≠ 0) : (Rd (F := F) P).expect (bC c o) 0 = N := by
  unfold Schedule.expect Schedule.amountOf; rw [duties_b P c h, Finset.sum_singleton, amount_dma]

theorem ofNat_val : (Fin.ofNat 8 o.val) = o := Fin.ext (Nat.mod_eq_of_lt o.isLt)

theorem payload_bar (r : ℕ) : (Rd (F := F) P).payload (barC c) r d = barPay c d := by dsimp only [Rd]; exact if_pos rfl
theorem payload_s0 : (Rd (F := F) P).payload (sC c o) 0 d = sPay0 P c o := by
  have ho := o.isLt
  dsimp only [Rd]; rw [dix_s c o, if_neg (dma_ne _), if_pos (by omega), if_pos rfl, Nat.add_sub_cancel_left, ofNat_val]
theorem payload_s1 : (Rd (F := F) P).payload (sC c o) 1 d = sPay1 P c o := by
  have ho := o.isLt
  dsimp only [Rd]; rw [dix_s c o, if_neg (dma_ne _), if_pos (by omega), if_neg (by decide), Nat.add_sub_cancel_left, ofNat_val]
theorem payload_a : (Rd (F := F) P).payload (aC c o) 0 d = aPay P c o := by
  have ho := o.isLt
  dsimp only [Rd]; rw [dix_a c o, if_neg (dma_ne _), if_neg (by omega), if_pos (by omega), Nat.add_sub_cancel_left, ofNat_val]
theorem payload_b : (Rd (F := F) P).payload (bC c o) 0 d = bPay P c o := by
  have ho := o.isLt
  dsimp only [Rd]; rw [dix_b c o, if_neg (dma_ne _), if_neg (by omega), if_neg (by omega), Nat.add_sub_cancel_left, ofNat_val]

theorem rest_bar : bigSep ((Rd (F := F) P).duties (barC c) 0 \ ∅) (fun u => (Rd (F := F) P).payload (barC c) 0 u)
    = bigSep (Finset.univ.erase 0) fun d => barPay c d := by
  rw [Finset.sdiff_empty, duties_bar]; exact bigSep_congr fun d _ => payload_bar P c d 0
theorem rest_s0 {o : Fin 8} (h : o ≠ 0) : bigSep ((Rd (F := F) P).duties (sC c o) 0 \ ∅) (fun u => (Rd (F := F) P).payload (sC c o) 0 u) = sPay0 P c o := by
  rw [Finset.sdiff_empty, duties_s P c h 0 (by decide), bigSep_singleton, payload_s0]
theorem rest_s1 {o : Fin 8} (h : o ≠ 0) : bigSep ((Rd (F := F) P).duties (sC c o) 1 \ ∅) (fun u => (Rd (F := F) P).payload (sC c o) 1 u) = sPay1 P c o := by
  rw [Finset.sdiff_empty, duties_s P c h 1 (by decide), bigSep_singleton, payload_s1]
theorem rest_a {o : Fin 8} (h : o ≠ 0) : bigSep ((Rd (F := F) P).duties (aC c o) 0 \ ∅) (fun u => (Rd (F := F) P).payload (aC c o) 0 u) = aPay P c o := by
  rw [Finset.sdiff_empty, duties_a P c h, bigSep_singleton, payload_a]
theorem rest_b {o : Fin 8} (h : o ≠ 0) : bigSep ((Rd (F := F) P).duties (bC c o) 0 \ ∅) (fun u => (Rd (F := F) P).payload (bC c o) 0 u) = bPay P c o := by
  rw [Finset.sdiff_empty, duties_b P c h, bigSep_singleton, payload_b]

end Cells

/-! ## What is owed; the levels -/

/-- Still owed by device `c`: a barrier unit at the offsets in `R`; the first exchange's copy; the second's. -/
def OB (c : Dev nD) (R : Finset (Fin 8)) : CellTallies nD τ sig Unit := ∑ s ∈ R, tallyAt (barC (c + s : Fin 8)) () 1
def OA (c : Dev nD) (R : Finset (Fin 8)) : CellTallies nD τ sig Unit := ∑ o ∈ R, tallyAt (aC (c + o : Fin 8) o) () N
def OC (c : Dev nD) (R : Finset (Fin 8)) : CellTallies nD τ sig Unit := ∑ o ∈ R, tallyAt (bC (c + o : Fin 8) o) () N

abbrev E0 : Finset (Fin 8) := Finset.univ.erase 0
def O₀ (c : Dev nD) : CellTallies nD τ sig Unit := OB c E0 + OA c E0 + OC c E0

def L (g : GSem nD τ sig) : Finset Unit := if g.1.2 = .tc then {()} else ∅
/-- The barriers at 1, the first exchange's receive semaphores at 2, the second's at 3, the rest at 0. -/
def lv (g : GSem nD τ sig) (_ : Unit) : ℕ :=
  if g.2 = .reg barS then 1 else if dix g.2 < 14 then 0 else if dix g.2 < 22 then 2 else 3

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := if_pos rfl
theorem lv_a (c : Dev nD) (o : Fin 8) : lv (aC c o) () = 2 := by
  have ho := o.isLt
  unfold lv; rw [if_neg (dma_ne _), if_neg (by show ¬ 14 + o.val < 14; omega), if_pos (by show 14 + o.val < 22; omega)]
theorem lv_b (c : Dev nD) (o : Fin 8) : lv (bC c o) () = 3 := by
  have ho := o.isLt
  unfold lv; rw [if_neg (dma_ne _), if_neg (by show ¬ 22 + o.val < 14; omega), if_neg (by show ¬ 22 + o.val < 22; omega)]
theorem lv_low (c : Dev nD) (s : DmaSem sig) (h : s.val < 14) : lv ((c : Thread nD τ), .dma s) () = 0 := by
  unfold lv; rw [if_neg (dma_ne _), if_pos (show dix (.dma s) < 14 from h)]

theorem pos_of_sum {f : Fin 8 → CellTallies nD τ sig Unit} {g : GSem nD τ sig} {u : Unit} (R : Finset (Fin 8)) (h : 0 < (∑ s ∈ R, f s) g u) :
    ∃ s, 0 < f s g u := by
  induction R using Finset.induction_on with
  | empty => exact absurd h (Nat.lt_irrefl 0)
  | insert a R ha ih =>
    rw [Finset.sum_insert ha] at h
    rcases Nat.add_pos_iff_pos_or_pos.mp (show 0 < f a g u + (∑ s ∈ R, f s) g u from h) with h | h
    · exact ⟨a, h⟩
    · exact ih h
theorem cell_of_pos {g g' : GSem nD τ sig} {u : Unit} {n : ℕ} (h : 0 < tallyAt g' () n g u) : g = g' := by
  rw [tallyAt_apply] at h
  by_contra hn
  rw [if_neg (fun e => hn e.1)] at h; exact Nat.lt_irrefl 0 h
theorem OB_pos {c : Dev nD} {R : Finset (Fin 8)} {g : GSem nD τ sig} {u : Unit} (h : 0 < OB c R g u) : ∃ s : Fin 8, g = barC (c + s : Fin 8) := by
  obtain ⟨s, hs⟩ := pos_of_sum R h
  exact ⟨s, cell_of_pos hs⟩
theorem OA_pos {c : Dev nD} {R : Finset (Fin 8)} {g : GSem nD τ sig} {u : Unit} (h : 0 < OA c R g u) : ∃ s : Fin 8, g = aC (c + s : Fin 8) s := by
  obtain ⟨s, hs⟩ := pos_of_sum R h
  exact ⟨s, cell_of_pos hs⟩
theorem OC_pos {c : Dev nD} {R : Finset (Fin 8)} {g : GSem nD τ sig} {u : Unit} (h : 0 < OC c R g u) : ∃ s : Fin 8, g = bC (c + s : Fin 8) s := by
  obtain ⟨s, hs⟩ := pos_of_sum R h
  exact ⟨s, cell_of_pos hs⟩

theorem OB_erase (c : Dev nD) {R : Finset (Fin 8)} {s : Fin 8} (h : s ∈ R) : OB c R = OB c (R.erase s) + tallyAt (barC (c + s : Fin 8)) () 1 :=
  (Finset.sum_erase_add R _ h).symm
theorem OA_erase (c : Dev nD) {R : Finset (Fin 8)} {s : Fin 8} (h : s ∈ R) : OA c R = OA c (R.erase s) + tallyAt (aC (c + s : Fin 8) s) () N :=
  (Finset.sum_erase_add R _ h).symm
theorem OC_erase (c : Dev nD) {R : Finset (Fin 8)} {s : Fin 8} (h : s ∈ R) : OC c R = OC c (R.erase s) + tallyAt (bC (c + s : Fin 8) s) () N :=
  (Finset.sum_erase_add R _ h).symm
theorem OB_empty (c : Dev nD) : OB c ∅ = 0 := Finset.sum_empty
theorem OA_empty (c : Dev nD) : OA c ∅ = 0 := Finset.sum_empty
theorem OC_empty (c : Dev nD) : OC c ∅ = 0 := Finset.sum_empty

/-- A wait on a semaphore below everything owed is allowed. -/
theorem mayWait_of (c : Dev nD) (sm : SemLoc sig) (O : CellTallies nD τ sig Unit) (n : ℕ) (hs : lv ((c : Thread nD τ), sm) () ≤ n)
    (hO : ∀ g u, 0 < O g u → g.1.2 = .tc ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem mayWait_bar (c : Dev nD) : (levAts L lv : sProp 𝕄) ⊢ MayWait (c : Thread nD τ) (.reg barS) () (OA c E0 + OC c E0) :=
  mayWait_of c _ _ 1 (lv_bar c).le fun g u h => by
    rcases Nat.add_pos_iff_pos_or_pos.mp (show 0 < OA c E0 g u + OC c E0 g u from h) with h | h
    · obtain ⟨s, rfl⟩ := OA_pos h; exact ⟨rfl, by rw [lv_a]; decide⟩
    · obtain ⟨s, rfl⟩ := OC_pos h; exact ⟨rfl, by rw [lv_b]; decide⟩
theorem mayWait_a (c : Dev nD) (o : Fin 8) : (levAts L lv : sProp 𝕄) ⊢ MayWait (c : Thread nD τ) (.dma (aS o)) () (OC c E0) :=
  mayWait_of c _ _ 2 (lv_a c o).le fun g u h => by
    obtain ⟨s, rfl⟩ := OC_pos h; exact ⟨rfl, by rw [lv_b]; decide⟩
theorem mayWait_s (c : Dev nD) (o : Fin 8) (R : Finset (Fin 8)) : (levAts L lv : sProp 𝕄) ⊢ MayWait (c : Thread nD τ) (.dma (sS o)) () (OC c R) :=
  mayWait_of c _ _ 0 (lv_low c _ (by have := o.isLt; show 6 + o.val < 14; omega)).le fun g u h => by
    obtain ⟨s, rfl⟩ := OC_pos h; exact ⟨rfl, by rw [lv_b]; decide⟩

/-! ## The cells, the facts every device uses -/

/-- The region's own semaphores in order: the sends', then the two exchanges' receives'. -/
abbrev osem : Fin 24 → SemLoc sig := fun k => .dma (⟨6 + k.val, by have := k.isLt; show 6 + k.val < 30; omega⟩ : Fin 30)
theorem osem_inj : Function.Injective osem := by decide
theorem osem_ne (k : Fin 24) : osem k ≠ .reg barS := dma_ne _

/-- The positions in that order. -/
abbrev kS (o : Fin 8) : Fin 24 := ⟨o.val, by omega⟩
abbrev kA (o : Fin 8) : Fin 24 := ⟨8 + o.val, by omega⟩
abbrev kB (o : Fin 8) : Fin 24 := ⟨16 + o.val, by omega⟩
theorem osem_kS : ∀ o : Fin 8, osem (kS o) = .dma (sS o) := by decide
theorem osem_kA : ∀ o : Fin 8, osem (kA o) = .dma (aS o) := by decide
theorem osem_kB : ∀ o : Fin 8, osem (kB o) = .dma (bS o) := by decide

def barEmb : Dev nD ↪ GSem nD τ sig := ⟨fun c => barC c, fun _ _ h => congrArg (fun g : GSem nD τ sig => g.1.1) h⟩
def scEmb : Dev nD × Fin 24 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barC c ∈ (barCells ∪ scCells : Finset (GSem nD τ sig)) :=
  Finset.mem_union_left _ (Finset.mem_map_of_mem barEmb (Finset.mem_univ c))
theorem sc_mem (c : Dev nD) (k : Fin 24) : ((c : Thread nD τ), osem k) ∈ (barCells ∪ scCells : Finset (GSem nD τ sig)) :=
  Finset.mem_union_right _ (Finset.mem_map_of_mem scEmb (Finset.mem_univ (c, k)))
theorem s_mem (c : Dev nD) (o : Fin 8) : sC c o ∈ (barCells ∪ scCells : Finset (GSem nD τ sig)) := by
  have h := sc_mem c (kS o); rw [osem_kS] at h; exact h
theorem a_mem (c : Dev nD) (o : Fin 8) : aC c o ∈ (barCells ∪ scCells : Finset (GSem nD τ sig)) := by
  have h := sc_mem c (kA o); rw [osem_kA] at h; exact h
theorem b_mem (c : Dev nD) (o : Fin 8) : bC c o ∈ (barCells ∪ scCells : Finset (GSem nD τ sig)) := by
  have h := sc_mem c (kB o); rw [osem_kB] at h; exact h

/-- All the invariants under one map of names, and every barrier open. -/
def records (K : GSem nD τ sig → ℕ) : sProp 𝕄 :=
  iprop((bigSep (barCells ∪ scCells) fun g => cellInv ER (Rd P) (K g) g) ∗ bigSep barCells fun g => reached ER g 0)
instance records_persistent (K : GSem nD τ sig → ℕ) : BI.Persistent (records P K) := by unfold records; infer_instance

/-- What device `c` may consult throughout: the records, the levels, its own semaphores open. -/
def ctx (K : GSem nD τ sig → ℕ) (c : Dev nD) : sProp 𝕄 :=
  iprop(records P K ∗ levAts L lv ∗ bigSep Finset.univ fun k : Fin 24 => reached ER ((c : Thread nD τ), osem k) 0)
instance ctx_persistent (K : GSem nD τ sig → ℕ) (c : Dev nD) : BI.Persistent (ctx P K c) := by unfold ctx; infer_instance

theorem ctx_inv (K : GSem nD τ sig → ℕ) (c : Dev nD) {g : GSem nD τ sig} (hg : g ∈ (barCells ∪ scCells : Finset (GSem nD τ sig))) :
    ctx P K c ⊢ cellInv ER (Rd P) (K g) g := by
  unfold ctx records
  iintro ⟨⟨#H, -⟩, -⟩
  have h : (bigSep (barCells ∪ scCells) fun g => cellInv ER (Rd P) (K g) g : sProp 𝕄) ⊢ cellInv ER (Rd P) (K g) g := bigSep_elim hg
  iapply h; iexact H
theorem ctx_bar (K : GSem nD τ sig → ℕ) (c d : Dev nD) : ctx P K c ⊢ reached ER (barC d) 0 := by
  unfold ctx records
  iintro ⟨⟨-, #H⟩, -⟩
  have h : (bigSep barCells fun g => (reached ER g 0 : sProp 𝕄)) ⊢ reached ER (barC d) 0 :=
    bigSep_elim (Finset.mem_map_of_mem barEmb (Finset.mem_univ d))
  iapply h; iexact H
theorem ctx_lev (K : GSem nD τ sig → ℕ) (c : Dev nD) : ctx P K c ⊢ levAts L lv := by
  unfold ctx
  iintro ⟨-, #H, -⟩
  iexact H
theorem ctx_own (K : GSem nD τ sig → ℕ) (c : Dev nD) (k : Fin 24) : ctx P K c ⊢ reached ER ((c : Thread nD τ), osem k) 0 := by
  unfold ctx
  iintro ⟨-, -, #H⟩
  have h : (bigSep Finset.univ fun k : Fin 24 => (reached ER ((c : Thread nD τ), osem k) 0 : sProp 𝕄)) ⊢ reached ER ((c : Thread nD τ), osem k) 0 :=
    bigSep_elim (Finset.mem_univ k)
  iapply h; iexact H

end Cert.KernelIdeal.Hand

end
-- ==== Proof.KernelIdeal.Steps.lean ====
/- The rules for one operation of the body of a kernel of `KernelIdeal`: each says what the operation takes from the device's
   holdings and what it leaves, at any offset. -/
module

public import proofs.«01_k».proof.Proof.KernelIdeal.Protocol

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Facts]

local notation "𝕄" => MT nD τ sig Unit (Elt F) ℕ UU ℕ

abbrev 𝒱₀ : Variants := Variants.none

/-- The body of a kernel run on device `c`, to the postcondition `Kt`. -/
abbrev wpc (c : Dev nD) {β : Type} (p : Prog (TpuEff nD τ sig (Elt F) Λ₀ .tc) β) (Kt : β → sProp 𝕄) : sProp 𝕄 :=
  wp frame (wpE (defs₀ (F := F)) 𝒱₀ (c : Thread nD τ) none) Set.univ p Kt

/-- What is owed, whatever was waited for. -/
abbrev ow (c : Dev nD) (O : CellTallies nD τ sig Unit) : sProp 𝕄 := iprop(∃ W, owes (c : Thread nD τ) O W)

theorem wpc_ret (c : Dev nD) {β : Type} (a : β) (Kt : β → sProp 𝕄) : Kt a ⊢ wpc c (.ret a) Kt := by
  show Kt a ⊢ iprop(|={Set.univ}[frame]=> Kt a)
  iintro H; imodintro; iexact H

/-! ## One of a family -/

/-- Over the offsets, `A` at those still to come (in `R`) and `B` at those done. -/
def mix (A B : Fin 8 → sProp 𝕄) (R : Finset (Fin 8)) : sProp 𝕄 := bigSep E0 fun o => if o ∈ R then A o else B o

theorem mix_all (A B : Fin 8 → sProp 𝕄) : mix A B E0 = bigSep E0 A := bigSep_congr fun o h => if_pos h
theorem mix_none (A B : Fin 8 → sProp 𝕄) (R : Finset (Fin 8)) (h : R = ∅) : mix A B R = bigSep E0 B := by
  subst h; exact bigSep_congr fun o _ => if_neg (Finset.notMem_empty o)

theorem keep_wand (X Y Z : sProp 𝕄) : iprop(X ∗ Y) ⊢ iprop(X ∗ (Z -∗ (Z ∗ Y))) := by
  iintro ⟨HA, H⟩
  isplitl [HA]; · iexact HA
  iintro HB
  isplitl [HB]; · iexact HB
  iexact H

/-- One still to come is taken out; with its `B` given back it is done. -/
theorem mix_take (A B : Fin 8 → sProp 𝕄) {R : Finset (Fin 8)} {o : Fin 8} (h0 : o ∈ E0) (h : o ∈ R) :
    mix A B R ⊢ iprop(A o ∗ (B o -∗ mix A B (R.erase o))) := by
  unfold mix
  rw [BI.bigSep_erase h0, BI.bigSep_erase (Φ := fun o' => if o' ∈ R.erase o then A o' else B o') h0, if_pos h, if_neg (Finset.notMem_erase o R),
    bigSep_congr (s := E0.erase o) (Ψ := fun o' => if o' ∈ R.erase o then A o' else B o') fun o' h' => by
      simp only [Finset.mem_erase, Finset.ne_of_mem_erase h', ne_eq, not_false_eq_true, true_and]]
  exact keep_wand _ _ _
/-- One done is looked at. -/
theorem mix_look (A B : Fin 8 → sProp 𝕄) {R : Finset (Fin 8)} {o : Fin 8} (h0 : o ∈ E0) (h : o ∉ R) :
    mix A B R ⊢ iprop(B o ∗ (B o -∗ mix A B R)) := by
  unfold mix
  rw [BI.bigSep_erase h0, if_neg h]
  exact keep_wand _ _ _

/-! ## Loads and stores -/

section Mem

variable (c : Dev nD) {X : sProp (MT nD τ sig Unit (Elt F) ℕ UU ℕ)}

theorem loadStep {cs : CoreSpace} {s : Shape} {e : EltTy} {m : Memref sig .tc cs s e} {r : Rect s} {hl : m.view.LoadsAt r.toLoadRect}
    {S : Finset (Idx ((m.access r).loc (c : Thread nD τ)))} {q : PosShare TreeShare} {f : Buf (Elt F) ((m.access r).loc (c : Thread nD τ))}
    (hS : (m.access r).set ⊆ S) {Kt : (r.toLoadRect.shape.Idx → Elt F e) → sProp 𝕄}
    (hk : iprop(((m.access r).loc (c : Thread nD τ) ↦[S]{q} f) ∗ X) ⊢ Kt ((m.access r).read (Elt F) f)) :
    iprop(((m.access r).loc (c : Thread nD τ) ↦[S]{q} f) ∗ X) ⊢ wpc c (Prog.lift (.load m r.toLoadRect hl)) Kt := by
  iintro ⟨H, HX⟩
  iapply (wp_load_rect 𝒱₀ (c : Thread nD τ) none Set.univ (m := m) (r := r) (hl := hl) (f := f) hS) $$ H
  iintro H
  iapply (wpc_ret c)
  iapply hk
  isplitl [H]; · iexact H
  iexact HX

theorem storeStep {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {S : Finset (Idx ((m.access r).loc (c : Thread nD τ)))} {f : Buf (Elt F) ((m.access r).loc (c : Thread nD τ))}
    (hS : (m.access r).setOn Finset.univ ⊆ S) {Kt : PUnit → sProp 𝕄}
    (hk : iprop(((m.access r).loc (c : Thread nD τ) ↦[S]{fullShare} ((m.access r).write (Elt F) f w Finset.univ)) ∗ X) ⊢ Kt ⟨⟩) :
    iprop(((m.access r).loc (c : Thread nD τ) ↦[S]{fullShare} f) ∗ X) ⊢ wpc c (Prog.lift (.store m r w Finset.univ hx hm)) Kt := by
  iintro ⟨H, HX⟩
  iapply (wp_store 𝒱₀ (c : Thread nD τ) none Set.univ (m := m) (r := r) (w := w) (hx := hx) (hm := hm) (f := f) hS) $$ H
  iintro H
  iapply (wpc_ret c)
  iapply hk
  isplitl [H]; · iexact H
  iexact HX

end Mem

variable (P : Dev nD → S2x256x512.Idx → Elt F .f32) (K : GSem nD τ sig → ℕ) (c : Dev nD) {X : sProp (MT nD τ sig Unit (Elt F) ℕ UU ℕ)}

/-! ## The barrier -/

/-- What the signal to the device `s` after takes. -/
abbrev sigRes (s : Fin 8) : sProp 𝕄 :=
  iprop(dutyTok ER (barC (c + s : Fin 8)) 0 (-s) ∗ (∃ f, rPt c (-s) f) ∗ ∃ f, oPt c (c + s : Fin 8) fullShare f)

theorem addneg : ∀ c s : Fin 8, c + s + -s = c := by decide
theorem neg_mem_E0 : ∀ s : Fin 8, s ∈ E0 → -s ∈ E0 := by decide

theorem ctx_ownA (o : Fin 8) : ctx P K c ⊢ reached ER (aC c o) 0 := by
  have h := ctx_own P K c (kA o); rw [osem_kA] at h; exact h
theorem ctx_ownB (o : Fin 8) : ctx P K c ⊢ reached ER (bC c o) 0 := by
  have h := ctx_own P K c (kB o); rw [osem_kB] at h; exact h
theorem ctx_ownS (o : Fin 8) : ctx P K c ⊢ reached ER (sC c o) 0 := by
  have h := ctx_own P K c (kS o); rw [osem_kS] at h; exact h

theorem sigStep {R : Finset (Fin 8)} (s : Fin 8) (h0 : s ∈ E0) (h : s ∈ R) {t : Dev nD} (ht : t = (c + s : Fin 8))
    {O : CellTallies nD τ sig Unit} {Kt : PUnit → sProp 𝕄}
    (hk : iprop(ctx P K c ∗ mix (sigRes c) (fun _ => (BI.emp : sProp 𝕄)) (R.erase s) ∗ ow c (OB c (R.erase s) + O) ∗ X) ⊢ Kt ⟨⟩) :
    iprop(ctx P K c ∗ mix (sigRes c) (fun _ => (BI.emp : sProp 𝕄)) R ∗ ow c (OB c R + O) ∗ X) ⊢ wpc c (semSignalWord t barS 1#32) Kt := by
  subst ht
  show _ ⊢ wpc c (.op (.semSignal ((c + s : Fin 8) : Thread nD τ) barS 1) .ret) Kt
  iintro ⟨#HC, HM, ⟨%W, HO⟩, HX⟩
  ihave HM' := (mix_take (sigRes c) (fun _ => (BI.emp : sProp 𝕄)) h0 h) $$ HM
  icases HM' with ⟨HA, HM⟩
  icases HA with ⟨Htok, Hr, Ho⟩
  iapply (Rounds.wp_signal 𝒱₀ ER (Rd P) (c : Thread nD τ) none (dst := ((c + s : Fin 8) : Thread nD τ)) (sem := barS) (r := 0) (d := -s)
      (κ := K (barC (c + s : Fin 8))) (by rw [duties_bar]; exact neg_mem_E0 s h0) (amount_bar P (c + s : Fin 8) (-s) 0) () (O₀ := OB c R + O) (W := W)
      (OB c (R.erase s) + O) (by rw [OB_erase c h, add_right_comm])) $$ [HO Htok Hr Ho]
  · isplitr; · iapply (ctx_inv P K c (bar_mem (c + s : Fin 8))); iexact HC
    isplitl [HO]; · iexact HO
    isplitl [Htok]; · iexact Htok
    isplitl [Hr Ho]
    · rw [payload_bar]; unfold barPay; rw [addneg]
      isplitl [Hr]; · iexact Hr
      isplitl [Ho]; · iexact Ho
      isplitr; · iapply (ctx_ownA P K c (-s)); iexact HC
      iapply (ctx_ownB P K c (-s)); iexact HC
    · iapply (ctx_bar P K c (c + s : Fin 8)); iexact HC
  iintro HO
  iapply (wpc_ret c)
  iapply hk
  isplitr; · iexact HC
  isplitl [HM]; · iapply HM; iempintro
  isplitl [HO]; · iexists W; iexact HO
  iexact HX

theorem barWait {Kt : PUnit → sProp 𝕄}
    (hk : iprop(ctx P K c ∗ (bigSep E0 (barPay c) ∗ atPos ER (barC c) 1 ∅ 0) ∗ ow c (OA c E0 + OC c E0) ∗ X) ⊢ Kt ⟨⟩) :
    iprop(ctx P K c ∗ (cred (tallyAt (barC c) () 7) ∗ atPos ER (barC c) 0 ∅ 0) ∗ ow c (OA c E0 + OC c E0) ∗ X)
      ⊢ wpc c (semWaitWord barS 7#32) Kt := by
  show _ ⊢ wpc c (.op (.semWait barS 7) .ret) Kt
  iintro ⟨#HC, ⟨Hcr, Hat⟩, ⟨%W, HO⟩, HX⟩
  iapply (Rounds.wp_wait_rest_token 𝒱₀ ER (Rd P) (c : Thread nD τ) none (κ := K (barC c)) (wpE_semWait_eq 𝒱₀ (c : Thread nD τ) none Set.univ)
      (Set.mem_univ _) () (O := OA c E0 + OC c E0) (W := W) (R := 0) (m := 0) (T := ∅) ((Nat.zero_add _).trans (expect_bar P c).symm)) $$ [Hcr HO Hat]
  · isplitr; · iapply (ctx_inv P K c (bar_mem c)); iexact HC
    isplitl [Hcr]; · iexact Hcr
    isplitl [HO]; · iexact HO
    isplitr; · iapply (mayWait_bar c); iapply (ctx_lev P K c); iexact HC
    iexact Hat
  iintro ⟨HO, Hat, -, Hpay⟩
  ihave Hp := (Entails.of_eq (rest_bar P c)) $$ Hpay
  iapply (wpc_ret c)
  iapply hk
  isplitr; · iexact HC
  isplitl [Hp Hat]
  · isplitl [Hp]; · iexact Hp
    iexact Hat
  isplitl [HO]; · iexists _; iexact HO
  iexact HX

/-! ## The copies -/

/-- What the first send at offset `o` takes. -/
abbrev sendA (o : Fin 8) : sProp 𝕄 :=
  iprop(pPt c (c + o : Fin 8) (P c) ∗ (∃ f, rPt (c + o : Fin 8) o f) ∗ dutyTok ER (sC c o) 0 0 ∗ dutyTok ER (aC (c + o : Fin 8) o) 0 0
    ∗ reached ER (aC (c + o : Fin 8) o) 0)
/-- What the second takes. -/
abbrev sendC (o : Fin 8) : sProp 𝕄 :=
  iprop(oPt c c (eighth o) (gath P) ∗ (∃ f, oPt (c + o : Fin 8) c fullShare f) ∗ dutyTok ER (sC c o) 1 0 ∗ dutyTok ER (bC (c + o : Fin 8) o) 0 0
    ∗ reached ER (sC c o) 1 ∗ reached ER (bC (c + o : Fin 8) o) 0)
/-- What either leaves. -/
abbrev sent (o : Fin 8) : sProp 𝕄 := cred (tallyAt (sC c o) () N)

theorem ne_of_E0 {o : Fin 8} (h : o ∈ E0) : o ≠ 0 := Finset.ne_of_mem_erase h

theorem sendAStep {R : Finset (Fin 8)} (o : Fin 8) (h0 : o ∈ E0) (h : o ∈ R) {t : Thread nD τ} (ht : t = ((c + o : Fin 8) : Dev nD).tc)
    {src : Memref sig .tc .vmem S2x32x512 .f32} (hs : src = pS (c + o : Fin 8)) {dst : Memref sig t.2.kind .vmem S2x32x512 .f32} (hd : HEq dst (rS o))
    {s r : DmaSem sig} (hss : s = sS o) (hrr : r = aS o) {hsc : dst.view.ref.isScScratch = false}
    {h1 : src.view.WordExact} {h2 : dst.view.WordExact} {h3 : DmaTarget.Typed .vmem (.dma r) (.remote t dst (.dma s) hsc)}
    {O : CellTallies nD τ sig Unit} {Kt : PUnit → sProp 𝕄}
    (hk : iprop(ctx P K c ∗ mix (sendA P c) (sent c) (R.erase o) ∗ ow c (OA c (R.erase o) + O) ∗ X) ⊢ Kt ⟨⟩) :
    iprop(ctx P K c ∗ mix (sendA P c) (sent c) R ∗ ow c (OA c R + O) ∗ X)
      ⊢ wpc c (Prog.lift (.enqueueDma src (.remote t dst (.dma s) hsc) (.dma r) h1 h2 h3)) Kt := by
  subst ht hs hss hrr
  obtain rfl := eq_of_heq hd
  iintro ⟨#HC, HM, ⟨%W, HO⟩, HX⟩
  ihave HM' := (mix_take (sendA P c) (sent c) h0 h) $$ HM
  icases HM' with ⟨HA, HM⟩
  icases HA with ⟨Hp, ⟨%fd, Hr⟩, Ht1, Ht2, #Hrd⟩
  iapply (Rounds.wp_send_pointsTo 𝒱₀ ER (Rd P) (c : Thread nD τ) none (c' := (((c + o : Fin 8) : Dev nD) : Thread nD τ)) (src := pS (c + o : Fin 8)) (dst := rS o)
      (sS := .dma (sS o)) (sem := .dma (aS o)) (q := fullShare) (fs := P c) (κ₁ := K (sC c o)) (κ₂ := K (aC (c + o : Fin 8) o))
      (r₁ := 0) (r₂ := 0) (d₁ := 0) (d₂ := 0) (fd := fd)
      (by rw [duties_s P c (ne_of_E0 h0) 0 (by decide)]; exact Finset.mem_singleton_self _)
      (by rw [duties_a P _ (ne_of_E0 h0)]; exact Finset.mem_singleton_self _)
      () () N rfl (amount_dma P c 0 _ 0) (amount_dma P _ 0 _ 0) (O₀ := OA c R + O) (OA c (R.erase o) + O) (by rw [OA_erase c h, add_right_comm]) (W := W)
      (by rw [payload_s0]; unfold sPay0; rw [pS_set])
      (by rw [payload_a]; unfold aPay; rw [rS_set]; exact Entails.of_eq (pointsTo_congr fun i hi => landR_eq P c o fd hi))) $$ [Hp Hr HO Ht1 Ht2]
  · isplitr; · iapply (ctx_inv P K c (s_mem c o)); iexact HC
    isplitr; · iapply (ctx_inv P K c (a_mem (c + o : Fin 8) o)); iexact HC
    isplitl [Hp]; · rw [pS_set]; iexact Hp
    isplitl [Hr]; · rw [rS_set]; iexact Hr
    isplitl [HO]; · iexact HO
    isplitl [Ht1]; · iexact Ht1
    isplitr; · iapply (ctx_ownS P K c o); iexact HC
    isplitl [Ht2]; · iexact Ht2
    iexact Hrd
  iintro ⟨Hcr, HO⟩
  iapply (wpc_ret c)
  iapply hk
  isplitr; · iexact HC
  isplitl [HM Hcr]; · iapply HM; iexact Hcr
  isplitl [HO]; · iexists W; iexact HO
  iexact HX

theorem sendCStep {R : Finset (Fin 8)} (o : Fin 8) (h0 : o ∈ E0) (h : o ∈ R) {t : Thread nD τ} (ht : t = ((c + o : Fin 8) : Dev nD).tc)
    {src : Memref sig .tc .vmem S2x32x512 .f32} (hs : src = outS c) {dst : Memref sig t.2.kind .vmem S2x32x512 .f32} (hd : HEq dst (outS c))
    {s r : DmaSem sig} (hss : s = sS o) (hrr : r = bS o) {hsc : dst.view.ref.isScScratch = false}
    {h1 : src.view.WordExact} {h2 : dst.view.WordExact} {h3 : DmaTarget.Typed .vmem (.dma r) (.remote t dst (.dma s) hsc)}
    {Kt : PUnit → sProp 𝕄}
    (hk : iprop(ctx P K c ∗ mix (sendC P c) (sent c) (R.erase o) ∗ ow c (OC c (R.erase o)) ∗ X) ⊢ Kt ⟨⟩) :
    iprop(ctx P K c ∗ mix (sendC P c) (sent c) R ∗ ow c (OC c R) ∗ X)
      ⊢ wpc c (Prog.lift (.enqueueDma src (.remote t dst (.dma s) hsc) (.dma r) h1 h2 h3)) Kt := by
  subst ht hs hss hrr
  obtain rfl := eq_of_heq hd
  iintro ⟨#HC, HM, ⟨%W, HO⟩, HX⟩
  ihave HM' := (mix_take (sendC P c) (sent c) h0 h) $$ HM
  icases HM' with ⟨HA, HM⟩
  icases HA with ⟨Hp, ⟨%fd, Hr⟩, Ht1, Ht2, #Hrs, #Hrd⟩
  iapply (Rounds.wp_send_pointsTo 𝒱₀ ER (Rd P) (c : Thread nD τ) none (c' := (((c + o : Fin 8) : Dev nD) : Thread nD τ)) (src := outS c) (dst := outS c)
      (sS := .dma (sS o)) (sem := .dma (bS o)) (q := eighth o) (fs := gath P) (κ₁ := K (sC c o)) (κ₂ := K (bC (c + o : Fin 8) o))
      (r₁ := 1) (r₂ := 0) (d₁ := 0) (d₂ := 0) (fd := fd)
      (by rw [duties_s P c (ne_of_E0 h0) 1 (by decide)]; exact Finset.mem_singleton_self _)
      (by rw [duties_b P _ (ne_of_E0 h0)]; exact Finset.mem_singleton_self _)
      () () N rfl (amount_dma P c 0 _ 1) (amount_dma P _ 0 _ 0) (O₀ := OC c R) (OC c (R.erase o)) (OC_erase c h) (W := W)
      (by rw [payload_s1]; unfold sPay1; rw [outS_set])
      (by rw [payload_b]; unfold bPay; rw [outS_set, addsub]; exact Entails.of_eq (pointsTo_congr fun i hi => gather_eq c fd (gath P) hi))) $$ [Hp Hr HO Ht1 Ht2]
  · isplitr; · iapply (ctx_inv P K c (s_mem c o)); iexact HC
    isplitr; · iapply (ctx_inv P K c (b_mem (c + o : Fin 8) o)); iexact HC
    isplitl [Hp]; · rw [outS_set]; iexact Hp
    isplitl [Hr]; · rw [outS_set]; iexact Hr
    isplitl [HO]; · iexact HO
    isplitl [Ht1]; · iexact Ht1
    isplitr; · iexact Hrs
    isplitl [Ht2]; · iexact Ht2
    iexact Hrd
  iintro ⟨Hcr, HO⟩
  iapply (wpc_ret c)
  iapply hk
  isplitr; · iexact HC
  isplitl [HM Hcr]; · iapply HM; iexact Hcr
  isplitl [HO]; · iexists W; iexact HO
  iexact HX

/-! ## The waits for the copies -/

/-- Any wait for one copy. -/
theorem waitStep (sm : DmaSem sig) (r : ℕ) (hg : ((c : Thread nD τ), SemLoc.dma sm) ∈ (barCells ∪ scCells : Finset (GSem nD τ sig)))
    (he : (Rd (F := F) P).expect ((c : Thread nD τ), SemLoc.dma sm) r = N) {O : CellTallies nD τ sig Unit}
    (hO : (levAts L lv : sProp 𝕄) ⊢ MayWait (c : Thread nD τ) (.dma sm) () O) {Y : sProp 𝕄}
    (hY : bigSep ((Rd (F := F) P).duties ((c : Thread nD τ), SemLoc.dma sm) r \ ∅) (fun u => (Rd (F := F) P).payload ((c : Thread nD τ), SemLoc.dma sm) r u) = Y)
    {src : Memref sig .tc .vmem S2x32x512 .f32} {dst : Memref sig .tc .vmem S2x32x512 .f32} {h1 : src.view.WordExact} {h2 : dst.view.WordExact}
    (hN : dst.view.dmaCredit = N) {Kt : PUnit → sProp 𝕄}
    (hk : iprop(ctx P K c ∗ ow c O ∗ (Y ∗ atPos ER ((c : Thread nD τ), SemLoc.dma sm) (r + 1) ∅ 0 ∗ reached ER ((c : Thread nD τ), SemLoc.dma sm) (r + 1)) ∗ X) ⊢ Kt ⟨⟩) :
    iprop(ctx P K c ∗ ow c O ∗ (cred (tallyAt ((c : Thread nD τ), SemLoc.dma sm) () N) ∗ atPos ER ((c : Thread nD τ), SemLoc.dma sm) r ∅ 0) ∗ X)
      ⊢ wpc c (Prog.lift (.waitDma2 sm src dst h1 h2)) Kt := by
  iintro ⟨#HC, ⟨%W, HO⟩, ⟨Hcr, Hat⟩, HX⟩
  iapply (Rounds.wp_wait_rest_token 𝒱₀ ER (Rd P) (c : Thread nD τ) none (κ := K ((c : Thread nD τ), SemLoc.dma sm))
      (wpE_waitDma2_eq (src := src) (dst := dst) 𝒱₀ (c : Thread nD τ) none Set.univ)
      (Set.mem_univ _) () (O := O) (W := W) (R := r) (m := 0) (T := ∅) ((Nat.zero_add _).trans (hN.trans he.symm))) $$ [Hcr HO Hat]
  · isplitr; · iapply (ctx_inv P K c hg); iexact HC
    isplitl [Hcr]; · rw [hN]; iexact Hcr
    isplitl [HO]; · iexact HO
    isplitr; · iapply hO; iapply (ctx_lev P K c); iexact HC
    iexact Hat
  iintro ⟨HO, Hat, Hre, Hpay⟩
  ihave Hp := (Entails.of_eq hY) $$ Hpay
  iapply (wpc_ret c)
  iapply hk
  isplitr; · iexact HC
  isplitl [HO]; · iexists _; iexact HO
  isplitl [Hp Hat Hre]
  · isplitl [Hp]; · iexact Hp
    isplitl [Hat]; · iexact Hat
    iexact Hre
  iexact HX

/-- Before and after the wait for what the first exchange brings at offset `o`, for the first send at `o`, for what the second
    brings, for the second send. -/
abbrev recvA (o : Fin 8) : sProp 𝕄 := iprop(cred (tallyAt (aC c o) () N) ∗ atPos ER (aC c o) 0 ∅ 0)
abbrev recvdA (o : Fin 8) : sProp 𝕄 := iprop(rPt c o (landR P c) ∗ atPos ER (aC c o) 1 ∅ 0)
abbrev backA (o : Fin 8) : sProp 𝕄 := iprop(cred (tallyAt (sC c o) () N) ∗ atPos ER (sC c o) 0 ∅ 0)
abbrev backdA (o : Fin 8) : sProp 𝕄 := iprop(pPt c (c + o : Fin 8) (P c) ∗ atPos ER (sC c o) 1 ∅ 0 ∗ reached ER (sC c o) 1)
abbrev recvC (o : Fin 8) : sProp 𝕄 := iprop(cred (tallyAt (bC c o) () N) ∗ atPos ER (bC c o) 0 ∅ 0)
abbrev recvdC (o : Fin 8) : sProp 𝕄 := iprop(oPt c (c - o : Fin 8) fullShare (gath P) ∗ atPos ER (bC c o) 1 ∅ 0)
abbrev backC (o : Fin 8) : sProp 𝕄 := iprop(cred (tallyAt (sC c o) () N) ∗ atPos ER (sC c o) 1 ∅ 0)
abbrev backdC (o : Fin 8) : sProp 𝕄 := iprop(oPt c c (eighth o) (gath P) ∗ atPos ER (sC c o) 2 ∅ 0)

variable {src : Memref sig .tc .vmem S2x32x512 .f32} {dst : Memref sig .tc .vmem S2x32x512 .f32} {h1 : src.view.WordExact} {h2 : dst.view.WordExact}

theorem recvAStep {R : Finset (Fin 8)} (o : Fin 8) (h0 : o ∈ E0) (h : o ∈ R) {s : DmaSem sig} (hs : s = aS o) (hN : dst.view.dmaCredit = N)
    {Kt : PUnit → sProp 𝕄}
    (hk : iprop(ctx P K c ∗ ow c (OC c E0) ∗ mix (recvA c) (recvdA P c) (R.erase o) ∗ X) ⊢ Kt ⟨⟩) :
    iprop(ctx P K c ∗ ow c (OC c E0) ∗ mix (recvA c) (recvdA P c) R ∗ X) ⊢ wpc c (Prog.lift (.waitDma2 s src dst h1 h2)) Kt := by
  subst hs
  refine .trans ?_ (waitStep P K c (X := iprop((recvdA P c o -∗ mix (recvA c) (recvdA P c) (R.erase o)) ∗ X)) (aS o) 0 (a_mem c o) (expect_a P c (ne_of_E0 h0))
    (mayWait_a c o) (rest_a P c (ne_of_E0 h0)) hN (.trans ?_ hk))
  · iintro ⟨#HC, HO, HM, HX⟩
    ihave HM' := (mix_take (recvA c) (recvdA P c) h0 h) $$ HM
    icases HM' with ⟨HA, HM⟩
    isplitr; · iexact HC
    isplitl [HO]; · iexact HO
    isplitl [HA]; · iexact HA
    isplitl [HM]; · iexact HM
    iexact HX
  · iintro ⟨#HC, HO, ⟨Hp, Hat, -⟩, HM, HX⟩
    isplitr; · iexact HC
    isplitl [HO]; · iexact HO
    isplitl [HM Hp Hat]
    · iapply HM; unfold aPay
      isplitl [Hp]; · iexact Hp
      iexact Hat
    iexact HX

theorem backAStep {R : Finset (Fin 8)} (o : Fin 8) (h0 : o ∈ E0) (h : o ∈ R) {s : DmaSem sig} (hs : s = sS o) (hN : dst.view.dmaCredit = N)
    {Kt : PUnit → sProp 𝕄}
    (hk : iprop(ctx P K c ∗ ow c (OC c E0) ∗ mix (backA c) (backdA P c) (R.erase o) ∗ X) ⊢ Kt ⟨⟩) :
    iprop(ctx P K c ∗ ow c (OC c E0) ∗ mix (backA c) (backdA P c) R ∗ X) ⊢ wpc c (Prog.lift (.waitDma2 s src dst h1 h2)) Kt := by
  subst hs
  refine .trans ?_ (waitStep P K c (X := iprop((backdA P c o -∗ mix (backA c) (backdA P c) (R.erase o)) ∗ X)) (sS o) 0 (s_mem c o) (expect_s P c (ne_of_E0 h0) 0 (by decide))
    (mayWait_s c o E0) (rest_s0 P c (ne_of_E0 h0)) hN (.trans ?_ hk))
  · iintro ⟨#HC, HO, HM, HX⟩
    ihave HM' := (mix_take (backA c) (backdA P c) h0 h) $$ HM
    icases HM' with ⟨HA, HM⟩
    isplitr; · iexact HC
    isplitl [HO]; · iexact HO
    isplitl [HA]; · iexact HA
    isplitl [HM]; · iexact HM
    iexact HX
  · iintro ⟨#HC, HO, ⟨Hp, Hat, Hre⟩, HM, HX⟩
    isplitr; · iexact HC
    isplitl [HO]; · iexact HO
    isplitl [HM Hp Hat Hre]
    · iapply HM; unfold sPay0
      isplitl [Hp]; · iexact Hp
      isplitl [Hat]; · iexact Hat
      iexact Hre
    iexact HX

theorem mayWait_b (o : Fin 8) : (levAts L lv : sProp 𝕄) ⊢ MayWait (c : Thread nD τ) (.dma (bS o)) () (OC c ∅) :=
  mayWait_of c _ _ 3 (lv_b c o).le fun g u h => by
    rw [OC_empty] at h; exact absurd h (Nat.lt_irrefl 0)

theorem recvCStep {R : Finset (Fin 8)} (o : Fin 8) (h0 : o ∈ E0) (h : o ∈ R) {s : DmaSem sig} (hs : s = bS o) (hN : dst.view.dmaCredit = N)
    {Kt : PUnit → sProp 𝕄}
    (hk : iprop(ctx P K c ∗ ow c (OC c ∅) ∗ mix (recvC c) (recvdC P c) (R.erase o) ∗ X) ⊢ Kt ⟨⟩) :
    iprop(ctx P K c ∗ ow c (OC c ∅) ∗ mix (recvC c) (recvdC P c) R ∗ X) ⊢ wpc c (Prog.lift (.waitDma2 s src dst h1 h2)) Kt := by
  subst hs
  refine .trans ?_ (waitStep P K c (X := iprop((recvdC P c o -∗ mix (recvC c) (recvdC P c) (R.erase o)) ∗ X)) (bS o) 0 (b_mem c o) (expect_b P c (ne_of_E0 h0))
    (mayWait_b c o) (rest_b P c (ne_of_E0 h0)) hN (.trans ?_ hk))
  · iintro ⟨#HC, HO, HM, HX⟩
    ihave HM' := (mix_take (recvC c) (recvdC P c) h0 h) $$ HM
    icases HM' with ⟨HA, HM⟩
    isplitr; · iexact HC
    isplitl [HO]; · iexact HO
    isplitl [HA]; · iexact HA
    isplitl [HM]; · iexact HM
    iexact HX
  · iintro ⟨#HC, HO, ⟨Hp, Hat, -⟩, HM, HX⟩
    isplitr; · iexact HC
    isplitl [HO]; · iexact HO
    isplitl [HM Hp Hat]
    · iapply HM; unfold bPay
      isplitl [Hp]; · iexact Hp
      iexact Hat
    iexact HX

theorem backCStep {R : Finset (Fin 8)} (o : Fin 8) (h0 : o ∈ E0) (h : o ∈ R) {s : DmaSem sig} (hs : s = sS o) (hN : dst.view.dmaCredit = N)
    {Kt : PUnit → sProp 𝕄}
    (hk : iprop(ctx P K c ∗ ow c (OC c ∅) ∗ mix (backC c) (backdC P c) (R.erase o) ∗ X) ⊢ Kt ⟨⟩) :
    iprop(ctx P K c ∗ ow c (OC c ∅) ∗ mix (backC c) (backdC P c) R ∗ X) ⊢ wpc c (Prog.lift (.waitDma2 s src dst h1 h2)) Kt := by
  subst hs
  refine .trans ?_ (waitStep P K c (X := iprop((backdC P c o -∗ mix (backC c) (backdC P c) (R.erase o)) ∗ X)) (sS o) 1 (s_mem c o) (expect_s P c (ne_of_E0 h0) 1 (by decide))
    (mayWait_s c o ∅) (rest_s1 P c (ne_of_E0 h0)) hN (.trans ?_ hk))
  · iintro ⟨#HC, HO, HM, HX⟩
    ihave HM' := (mix_take (backC c) (backdC P c) h0 h) $$ HM
    icases HM' with ⟨HA, HM⟩
    isplitr; · iexact HC
    isplitl [HO]; · iexact HO
    isplitl [HA]; · iexact HA
    isplitl [HM]; · iexact HM
    iexact HX
  · iintro ⟨#HC, HO, ⟨Hp, Hat, -⟩, HM, HX⟩
    isplitr; · iexact HC
    isplitl [HO]; · iexact HO
    isplitl [HM Hp Hat]
    · iapply HM; unfold sPay1
      isplitl [Hp]; · iexact Hp
      iexact Hat
    iexact HX

end Cert.KernelIdeal.Hand

end
-- ==== Proof.KernelIdeal.Body.lean ====
/- The body of a kernel of `KernelIdeal` up to the barrier wait: the signals, and the partial product computed into the
   device's buffer. -/
module

public import proofs.«01_k».proof.Proof.KernelIdeal.Steps

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Facts]

local notation "𝕄" => MT nD τ sig Unit (Elt F) ℕ UU ℕ

/-! ## The staged operands -/

section Operands

variable (c : Dev nD) {X : sProp (MT nD τ sig Unit (Elt F) ℕ UU ℕ)}
variable (x : S2x256x512.Idx → Elt F .f32) (q : S512x256.Idx → Elt F .f32) (k v : S2x256x256.Idx → Elt F .f32) (w : S256x512.Idx → Elt F .f32)

/-- The five operands, staged. -/
abbrev opsPt : sProp 𝕄 :=
  iprop((xM.view.loc (c : Thread nD τ) ↦[Finset.univ]{fullShare} x) ∗ (qM.view.loc (c : Thread nD τ) ↦[Finset.univ]{fullShare} q)
    ∗ (kM.view.loc (c : Thread nD τ) ↦[Finset.univ]{fullShare} k) ∗ (vM.view.loc (c : Thread nD τ) ↦[Finset.univ]{fullShare} v)
    ∗ (wM.view.loc (c : Thread nD τ) ↦[Finset.univ]{fullShare} w))
/-- The whole of the buffer the partial product goes to. -/
abbrev pAll (f : S2x256x512.Idx → Elt F .f32) : sProp 𝕄 := iprop(pM.view.loc (c : Thread nD τ) ↦[Finset.univ]{fullShare} f)

theorem getX {r : Rect S2x256x512} {hl : xM.view.LoadsAt r.toLoadRect} {Kt : (r.toLoadRect.shape.Idx → Elt F .f32) → sProp 𝕄}
    (hk : iprop(opsPt c x q k v w ∗ X) ⊢ Kt (ld x r)) : iprop(opsPt c x q k v w ∗ X) ⊢ wpc c (Prog.lift (.load xM r.toLoadRect hl)) Kt := by
  refine .trans ?_ (loadStep c (X := iprop((qM.view.loc (c : Thread nD τ) ↦[Finset.univ]{fullShare} q)
    ∗ (kM.view.loc (c : Thread nD τ) ↦[Finset.univ]{fullShare} k) ∗ (vM.view.loc (c : Thread nD τ) ↦[Finset.univ]{fullShare} v)
    ∗ (wM.view.loc (c : Thread nD τ) ↦[Finset.univ]{fullShare} w) ∗ X)) (S := Finset.univ) (f := x) (q := fullShare) (Finset.subset_univ _) (.trans ?_ hk))
  · iintro ⟨⟨H0, H1, H2, H3, H4⟩, HX⟩; iframe H0 H1 H2 H3 H4 HX
  · iintro ⟨H0, H1, H2, H3, H4, HX⟩; iframe H0 H1 H2 H3 H4 HX
theorem getQ {r : Rect S512x256} {hl : qM.view.LoadsAt r.toLoadRect} {Kt : (r.toLoadRect.shape.Idx → Elt F .f32) → sProp 𝕄}
    (hk : iprop(opsPt c x q k v w ∗ X) ⊢ Kt (ld q r)) : iprop(opsPt c x q k v w ∗ X) ⊢ wpc c (Prog.lift (.load qM r.toLoadRect hl)) Kt := by
  refine .trans ?_ (loadStep c (X := iprop((xM.view.loc (c : Thread nD τ) ↦[Finset.univ]{fullShare} x)
    ∗ (kM.view.loc (c : Thread nD τ) ↦[Finset.univ]{fullShare} k) ∗ (vM.view.loc (c : Thread nD τ) ↦[Finset.univ]{fullShare} v)
    ∗ (wM.view.loc (c : Thread nD τ) ↦[Finset.univ]{fullShare} w) ∗ X)) (S := Finset.univ) (f := q) (q := fullShare) (Finset.subset_univ _) (.trans ?_ hk))
  · iintro ⟨⟨H0, H1, H2, H3, H4⟩, HX⟩; iframe H0 H1 H2 H3 H4 HX
  · iintro ⟨H1, H0, H2, H3, H4, HX⟩; iframe H0 H1 H2 H3 H4 HX
theorem getK {r : Rect S2x256x256} {hl : kM.view.LoadsAt r.toLoadRect} {Kt : (r.toLoadRect.shape.Idx → Elt F .f32) → sProp 𝕄}
    (hk : iprop(opsPt c x q k v w ∗ X) ⊢ Kt (ld k r)) : iprop(opsPt c x q k v w ∗ X) ⊢ wpc c (Prog.lift (.load kM r.toLoadRect hl)) Kt := by
  refine .trans ?_ (loadStep c (X := iprop((xM.view.loc (c : Thread nD τ) ↦[Finset.univ]{fullShare} x)
    ∗ (qM.view.loc (c : Thread nD τ) ↦[Finset.univ]{fullShare} q) ∗ (vM.view.loc (c : Thread nD τ) ↦[Finset.univ]{fullShare} v)
    ∗ (wM.view.loc (c : Thread nD τ) ↦[Finset.univ]{fullShare} w) ∗ X)) (S := Finset.univ) (f := k) (q := fullShare) (Finset.subset_univ _) (.trans ?_ hk))
  · iintro ⟨⟨H0, H1, H2, H3, H4⟩, HX⟩; iframe H0 H1 H2 H3 H4 HX
  · iintro ⟨H2, H0, H1, H3, H4, HX⟩; iframe H0 H1 H2 H3 H4 HX
theorem getV {r : Rect S2x256x256} {hl : vM.view.LoadsAt r.toLoadRect} {Kt : (r.toLoadRect.shape.Idx → Elt F .f32) → sProp 𝕄}
    (hk : iprop(opsPt c x q k v w ∗ X) ⊢ Kt (ld v r)) : iprop(opsPt c x q k v w ∗ X) ⊢ wpc c (Prog.lift (.load vM r.toLoadRect hl)) Kt := by
  refine .trans ?_ (loadStep c (X := iprop((xM.view.loc (c : Thread nD τ) ↦[Finset.univ]{fullShare} x)
    ∗ (qM.view.loc (c : Thread nD τ) ↦[Finset.univ]{fullShare} q) ∗ (kM.view.loc (c : Thread nD τ) ↦[Finset.univ]{fullShare} k)
    ∗ (wM.view.loc (c : Thread nD τ) ↦[Finset.univ]{fullShare} w) ∗ X)) (S := Finset.univ) (f := v) (q := fullShare) (Finset.subset_univ _) (.trans ?_ hk))
  · iintro ⟨⟨H0, H1, H2, H3, H4⟩, HX⟩; iframe H0 H1 H2 H3 H4 HX
  · iintro ⟨H3, H0, H1, H2, H4, HX⟩; iframe H0 H1 H2 H3 H4 HX
theorem getW {r : Rect S256x512} {hl : wM.view.LoadsAt r.toLoadRect} {Kt : (r.toLoadRect.shape.Idx → Elt F .f32) → sProp 𝕄}
    (hk : iprop(opsPt c x q k v w ∗ X) ⊢ Kt (ld w r)) : iprop(opsPt c x q k v w ∗ X) ⊢ wpc c (Prog.lift (.load wM r.toLoadRect hl)) Kt := by
  refine .trans ?_ (loadStep c (X := iprop((xM.view.loc (c : Thread nD τ) ↦[Finset.univ]{fullShare} x)
    ∗ (qM.view.loc (c : Thread nD τ) ↦[Finset.univ]{fullShare} q) ∗ (kM.view.loc (c : Thread nD τ) ↦[Finset.univ]{fullShare} k)
    ∗ (vM.view.loc (c : Thread nD τ) ↦[Finset.univ]{fullShare} v) ∗ X)) (S := Finset.univ) (f := w) (q := fullShare) (Finset.subset_univ _) (.trans ?_ hk))
  · iintro ⟨⟨H0, H1, H2, H3, H4⟩, HX⟩; iframe H0 H1 H2 H3 H4 HX
  · iintro ⟨H4, H0, H1, H2, H3, HX⟩; iframe H0 H1 H2 H3 H4 HX

theorem swap_sep (A B Y : sProp 𝕄) : iprop(A ∗ B ∗ Y) ⊢ iprop(B ∗ A ∗ Y) := by
  iintro ⟨HA, HB, HY⟩; iframe HA HB HY

/-- The buffer read, whatever it holds. -/
theorem getP {f : S2x256x512.Idx → Elt F .f32} {r : Rect S2x256x512} {hl : pM.view.LoadsAt r.toLoadRect}
    {Kt : (r.toLoadRect.shape.Idx → Elt F .f32) → sProp 𝕄}
    (hk : ∀ g, iprop(opsPt c x q k v w ∗ pAll c f ∗ X) ⊢ Kt g) :
    iprop(opsPt c x q k v w ∗ pAll c f ∗ X) ⊢ wpc c (Prog.lift (.load pM r.toLoadRect hl)) Kt := by
  refine .trans ?_ (loadStep c (X := iprop(opsPt c x q k v w ∗ X)) (S := Finset.univ) (f := f) (q := fullShare) (Finset.subset_univ _) (.trans ?_ (hk _)))
  · exact swap_sep _ _ _
  · exact swap_sep _ _ _
/-- The buffer written. -/
theorem putP {f : S2x256x512.Idx → Elt F .f32} {r : Rect S2x256x512} {y : r.shape.Idx → Elt F .f32}
    {hx : (pM.access r).Stores Finset.univ} {hm : (Finset.univ : Finset r.shape.Idx) = Finset.univ ∨ ∀ a, r.stride a = 1} {Kt : PUnit → sProp 𝕄}
    (hk : iprop(opsPt c x q k v w ∗ pAll c ((pM.access r).write (Elt F) f y Finset.univ) ∗ X) ⊢ Kt ⟨⟩) :
    iprop(opsPt c x q k v w ∗ pAll c f ∗ X) ⊢ wpc c (Prog.lift (.store pM r y Finset.univ hx hm)) Kt := by
  refine .trans ?_ (storeStep c (X := iprop(opsPt c x q k v w ∗ X)) (S := Finset.univ) (f := f) (Finset.subset_univ _) (.trans ?_ hk))
  · exact swap_sep _ _ _
  · exact swap_sep _ _ _

end Operands

/-! ## The signals -/

section Parts

variable (P : Dev nD → S2x256x512.Idx → Elt F .f32) (K : GSem nD τ sig → ℕ) (c : Dev nD) {X : sProp (MT nD τ sig Unit (Elt F) ℕ UU ℕ)}
variable {hx : xM.IsWhole} {hq : qM.IsWhole} {hk : kM.IsWhole} {hv : vM.IsWhole} {hw : wM.IsWhole} {ho : outM.IsWhole} {hp : pM.IsWhole} {hr : rM.IsWhole}

theorem devStep {Kt : Dev nD → sProp 𝕄} {Y : sProp 𝕄} (h : Y ⊢ Kt c) : Y ⊢ wpc c (Prog.lift .deviceId) Kt := by
  refine h.trans ?_
  rw [show wpc c (Prog.lift .deviceId) Kt = wpc c (.ret c) Kt from wp_deviceId 𝒱₀ (c : Thread nD τ) none Set.univ]
  exact wpc_ret c c Kt

/-- With signals to the devices at the offsets `R` to come. -/
abbrev sigSt (R : Finset (Fin 8)) (X : sProp 𝕄) : sProp 𝕄 :=
  iprop(ctx P K c ∗ mix (sigRes c) (fun _ => (BI.emp : sProp 𝕄)) R ∗ ow c (OB c R + (OA c E0 + OC c E0)) ∗ X)

theorem part1_run {Kt : _ → sProp 𝕄}
    (h : ∀ a b d, sigSt P K c ((E0.erase 1).erase 2) X ⊢ Kt ⟨c, a, SemArray.scalar (sig.barrier 0 rfl), b, 8#32, d⟩) :
    sigSt P K c E0 X ⊢ wpc c (k0_part1 xM hx qM hq kM hk vM hv wM hw outM ho pM hp rM hr cc0_scratch2 cc0_scratch3 cc0_scratch4) Kt := by
  rw [k0_part1_eq_skeleton]; unfold k0_part1_skel; simp only [wp_bind, wp_pure]
  refine devStep c ?_
  refine sigStep P K c 1 (by decide) (by decide) (Fin.ext (dev_sig c).1) ?_
  refine sigStep P K c 2 (by decide) (by decide) (Fin.ext (dev_sig c).2.1) ?_
  exact (h _ _ _).trans (wpc_ret c _ Kt)

theorem part2_run {a b : BitVec 32} {e : BitVec 32} {d : BitVec 1} {Kt : _ → sProp 𝕄}
    (h : ∀ r, sigSt P K c ((((E0.erase 1).erase 2).erase 3).erase 4) X ⊢ Kt r) :
    sigSt P K c ((E0.erase 1).erase 2) X ⊢ wpc c (k0_part2 xM hx qM hq kM hk vM hv wM hw outM ho pM hp rM hr cc0_scratch2 cc0_scratch3 cc0_scratch4 c a (SemArray.scalar (sig.barrier 0 rfl)) b e d) Kt := by
  rw [k0_part2_eq_skeleton]; unfold k0_part2_skel; simp only [wp_bind, wp_pure]
  refine sigStep P K c 3 (by decide) (by decide) (Fin.ext (dev_sig c).2.2.1) ?_
  refine sigStep P K c 4 (by decide) (by decide) (Fin.ext (dev_sig c).2.2.2.1) ?_
  exact (h _).trans (wpc_ret c _ Kt)

theorem part3_run {a b e : BitVec 32} {d : BitVec 1} {Kt : _ → sProp 𝕄}
    (h : iprop(ctx P K c ∗ ow c (OA c E0 + OC c E0) ∗ X) ⊢ Kt ⟨iot, 64#32, k0_pay1, 0#32⟩) :
    sigSt P K c ((((E0.erase 1).erase 2).erase 3).erase 4) X
      ⊢ wpc c (k0_part3 xM hx qM hq kM hk vM hv wM hw outM ho pM hp rM hr cc0_scratch2 cc0_scratch3 cc0_scratch4 c a (SemArray.scalar (sig.barrier 0 rfl)) b d e) Kt := by
  rw [k0_part3_eq_skeleton]; unfold k0_part3_skel; simp only [wp_bind, wp_pure]
  refine sigStep P K c 5 (by decide) (by decide) (Fin.ext (dev_sig c).2.2.2.2.1) ?_
  refine sigStep P K c 6 (by decide) (by decide) (Fin.ext (dev_sig c).2.2.2.2.2.1) ?_
  refine sigStep P K c 7 (by decide) (by decide) (Fin.ext (dev_sig c).2.2.2.2.2.2) ?_
  refine .trans ?_ (h.trans (wpc_ret c _ Kt))
  rw [show (((((((E0.erase 1).erase 2).erase 3).erase 4).erase 5).erase 6).erase 7 : Finset (Fin 8)) = ∅ by decide, OB_empty, zero_add]
  iintro ⟨H0, H1, H2, H3⟩; iframe H0 H2 H3

theorem part4_run {Kt : _ → sProp 𝕄} (h : X ⊢ Kt ⟨mk2, k0_pay3, mk4⟩) : X ⊢ wpc c (k0_part4 xM hx qM hq kM hk vM hv wM hw outM ho pM hp rM hr cc0_scratch2 cc0_scratch3 cc0_scratch4 iot 64#32 k0_pay1 0#32) Kt := by
  rw [k0_part4_eq_skeleton]; unfold k0_part4_skel; simp only [wp_bind, wp_pure]
  exact h.trans (wpc_ret c _ Kt)

/-! ## The partial product -/

variable (x : S2x256x512.Idx → Elt F .f32) (q : S512x256.Idx → Elt F .f32) (k v : S2x256x256.Idx → Elt F .f32) (w : S256x512.Idx → Elt F .f32)

theorem part5_run {Kt : _ → sProp 𝕄}
    (h : iprop(opsPt c x q k v w ∗ X) ⊢ Kt ⟨msk, k0_pay6 (ld x rX0) (ld q rQ), k0_pay7 mk2 k0_pay3 mk4 (ld x rX0) (ld q rQ) (ld k rH00)⟩) :
    iprop(opsPt c x q k v w ∗ X) ⊢ wpc c (k0_part5 xM hx qM hq kM hk vM hv wM hw outM ho pM hp rM hr cc0_scratch2 cc0_scratch3 cc0_scratch4 mk2 k0_pay3 mk4) Kt := by
  rw [k0_part5_eq_skeleton]; unfold k0_part5_skel; simp only [wp_bind, wp_pure]
  refine getX c x q k v w ?_
  refine getQ c x q k v w ?_
  refine getK c x q k v w ?_
  exact h.trans (wpc_ret c _ Kt)

theorem part6_run {u : FVec F S256x256 .f32} {s : FVec F S256x256 .f32} {Kt : _ → sProp 𝕄}
    (h : iprop(opsPt c x q k v w ∗ X) ⊢ Kt ⟨k0_pay8 s (ld v rH00), k0_pay9 msk u (ld k rH01) (ld v rH01), k0_pay10 msk u (ld k rH02) (ld v rH02), k0_pay11 u⟩) :
    iprop(opsPt c x q k v w ∗ X) ⊢ wpc c (k0_part6 xM hx qM hq kM hk vM hv wM hw outM ho pM hp rM hr cc0_scratch2 cc0_scratch3 cc0_scratch4 msk u s) Kt := by
  rw [k0_part6_eq_skeleton]; unfold k0_part6_skel; simp only [wp_bind, wp_pure]
  refine getV c x q k v w ?_
  refine getK c x q k v w ?_
  refine getV c x q k v w ?_
  refine getK c x q k v w ?_
  refine getV c x q k v w ?_
  exact h.trans (wpc_ret c _ Kt)

theorem part7_run {f : S2x256x512.Idx → Elt F .f32} {a b d e : FVec F S256x64 .f32} {Kt : _ → sProp 𝕄}
    (h : iprop(opsPt c x q k v w
        ∗ pAll c ((pM.access rX0).write (Elt F) f (k0_pay12 msk a b d e (ld k rH03) (ld v rH03) (ld w rW)) Finset.univ) ∗ X)
      ⊢ Kt ⟨k0_pay13 (ld x rX1) (ld q rQ), k0_pay14 msk (ld x rX1) (ld q rQ) (ld k rH10)⟩) :
    iprop(opsPt c x q k v w ∗ pAll c f ∗ X) ⊢ wpc c (k0_part7 xM hx qM hq kM hk vM hv wM hw outM ho pM hp rM hr cc0_scratch2 cc0_scratch3 cc0_scratch4 msk a b d e) Kt := by
  rw [k0_part7_eq_skeleton]; unfold k0_part7_skel; simp only [wp_bind, wp_pure]
  refine getK c x q k v w ?_
  refine getV c x q k v w ?_
  refine getW c x q k v w ?_
  refine getP c x q k v w fun _ => ?_
  refine putP c x q k v w ?_
  refine getX c x q k v w ?_
  refine getQ c x q k v w ?_
  refine getK c x q k v w ?_
  exact h.trans (wpc_ret c _ Kt)

theorem part8_run {u s : FVec F S256x256 .f32} {Kt : _ → sProp 𝕄}
    (h : iprop(opsPt c x q k v w ∗ X) ⊢ Kt ⟨k0_pay15 s (ld v rH10), k0_pay16 msk u (ld k rH11) (ld v rH11), k0_pay18 msk u (ld k rH12) (ld v rH12), k0_pay19 msk u (ld k rH12)⟩) :
    iprop(opsPt c x q k v w ∗ X) ⊢ wpc c (k0_part8 xM hx qM hq kM hk vM hv wM hw outM ho pM hp rM hr cc0_scratch2 cc0_scratch3 cc0_scratch4 msk u s) Kt := by
  rw [k0_part8_eq_skeleton]; unfold k0_part8_skel; simp only [wp_bind, wp_pure]
  refine getV c x q k v w ?_
  refine getK c x q k v w ?_
  refine getV c x q k v w ?_
  refine getK c x q k v w ?_
  refine getV c x q k v w ?_
  exact h.trans (wpc_ret c _ Kt)

/-- The second half of the product stored, then the barrier. -/
theorem part9_run {f : S2x256x512.Idx → Elt F .f32} {n : BitVec 32} {u : FVec F S256x256 .f32} {a b d e : FVec F S256x64 .f32} {Kt : _ → sProp 𝕄}
    (h : ∀ r, iprop(ctx P K c ∗ (bigSep E0 (barPay c) ∗ atPos ER (barC c) 1 ∅ 0) ∗ ow c (OA c E0 + OC c E0)
        ∗ opsPt c x q k v w ∗ pAll c ((pM.access rX1).write (Elt F) f (k0_pay20 msk u a b d e (ld k rH13) (ld v rH13) (ld w rW)) Finset.univ) ∗ X) ⊢ Kt r) :
    iprop(opsPt c x q k v w ∗ pAll c f ∗ ctx P K c ∗ (cred (tallyAt (barC c) () 7) ∗ atPos ER (barC c) 0 ∅ 0) ∗ ow c (OA c E0 + OC c E0) ∗ X)
      ⊢ wpc c (k0_part9 xM hx qM hq kM hk vM hv wM hw outM ho pM hp rM hr cc0_scratch2 cc0_scratch3 cc0_scratch4 n (SemArray.scalar (sig.barrier 0 rfl)) msk u a b d e) Kt := by
  rw [k0_part9_eq_skeleton]; unfold k0_part9_skel; simp only [wp_bind, wp_pure]
  refine getK c x q k v w ?_
  refine getV c x q k v w ?_
  refine getW c x q k v w ?_
  refine getP c x q k v w fun _ => ?_
  refine putP c x q k v w ?_
  refine .trans ?_ (barWait P K c (X := iprop(opsPt c x q k v w
    ∗ pAll c ((pM.access rX1).write (Elt F) f (k0_pay20 msk u a b d e (ld k rH13) (ld v rH13) (ld w rW)) Finset.univ) ∗ X)) ((h _).trans (wpc_ret c _ Kt)))
  iintro ⟨H0, H1, H2, H3, H4, H5⟩; iframe H0 H1 H2 H3 H4 H5

end Parts

end Cert.KernelIdeal.Hand

end
-- ==== Proof.KernelIdeal.Rounds.lean ====
/- The body of a kernel of `KernelIdeal` from the barrier on: the first exchange, the sum, the second exchange. -/
module

public import proofs.«01_k».proof.Proof.KernelIdeal.Body

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Facts]

local notation "𝕄" => MT nD τ sig Unit (Elt F) ℕ UU ℕ

/-! ## Slices at offsets -/

theorem pS_of {off : Fin 3 → ℕ} {hb} {k : Fin 8} (h : off = ![0, 32 * k.val, 0]) :
    pM.slice (Rect.unit (s := S2x256x512) off S2x32x512.size hb) (fun _ => rfl) = pS k := by subst h; rfl
theorem outS_of {off : Fin 3 → ℕ} {hb} {k : Fin 8} (h : off = ![0, 32 * k.val, 0]) :
    outM.slice (Rect.unit (s := S2x256x512) off S2x32x512.size hb) (fun _ => rfl) = outS k := by subst h; rfl

theorem slot_access (o : Fin 8) : (rM.access (slotRect o)).set = slotBlk o := (View.set_slice_whole _ _).trans (slotRect_set o)

theorem out_access (k : Fin 8) : (outM.access (rowRect k)).set = rowBlk k := (View.set_slice_whole _ _).trans (rowRect_set k)

/-- The offsets still to come, in the order of the sends and of the waits for them. -/
abbrev r1 : Finset (Fin 8) := E0.erase 4
abbrev r2 : Finset (Fin 8) := r1.erase 3
abbrev r3 : Finset (Fin 8) := r2.erase 5
abbrev r4 : Finset (Fin 8) := r3.erase 2
abbrev r5 : Finset (Fin 8) := r4.erase 6
abbrev r6 : Finset (Fin 8) := r5.erase 1
abbrev r7 : Finset (Fin 8) := r6.erase 7
/-- And in the order of the sums. -/
abbrev q1 : Finset (Fin 8) := E0.erase 1
abbrev q3 : Finset (Fin 8) := (q1.erase 2).erase 3
abbrev q6 : Finset (Fin 8) := ((q3.erase 4).erase 5).erase 6
abbrev q7 : Finset (Fin 8) := q6.erase 7
theorem r7_empty : r7 = ∅ := by decide
theorem q7_empty : q7 = ∅ := by decide

section Parts

variable (P : Dev nD → S2x256x512.Idx → Elt F .f32) (K : GSem nD τ sig → ℕ) (c : Dev nD) {X : sProp (MT nD τ sig Unit (Elt F) ℕ UU ℕ)}
variable {hx : xM.IsWhole} {hq : qM.IsWhole} {hk : kM.IsWhole} {hv : vM.IsWhole} {hw : wM.IsWhole} {ho : outM.IsWhole} {hp : pM.IsWhole} {hr : rM.IsWhole}

/-! ## The first exchange -/

abbrev sendASt (R : Finset (Fin 8)) (X : sProp 𝕄) : sProp 𝕄 := iprop(ctx P K c ∗ mix (sendA P c) (sent c) R ∗ ow c (OA c R + OC c E0) ∗ X)
abbrev recvASt (R : Finset (Fin 8)) (X : sProp 𝕄) : sProp 𝕄 := iprop(ctx P K c ∗ ow c (OC c E0) ∗ mix (recvA c) (recvdA P c) R ∗ X)
abbrev backASt (R : Finset (Fin 8)) (X : sProp 𝕄) : sProp 𝕄 := iprop(ctx P K c ∗ ow c (OC c E0) ∗ mix (backA c) (backdA P c) R ∗ X)
abbrev sendCSt (R : Finset (Fin 8)) (X : sProp 𝕄) : sProp 𝕄 := iprop(ctx P K c ∗ mix (sendC P c) (sent c) R ∗ ow c (OC c R) ∗ X)
abbrev recvCSt (R : Finset (Fin 8)) (X : sProp 𝕄) : sProp 𝕄 := iprop(ctx P K c ∗ ow c (OC c ∅) ∗ mix (recvC c) (recvdC P c) R ∗ X)
abbrev backCSt (R : Finset (Fin 8)) (X : sProp 𝕄) : sProp 𝕄 := iprop(ctx P K c ∗ ow c (OC c ∅) ∗ mix (backC c) (backdC P c) R ∗ X)

theorem part10_run {a b : BitVec 32} {Kt : _ → sProp 𝕄} (h : ∀ r, sendASt P K c r1 X ⊢ Kt r) :
    sendASt P K c E0 X ⊢ wpc c (k0_part10 xM hx qM hq kM hk vM hv wM hw outM ho pM hp rM hr cc0_scratch2 cc0_scratch3 cc0_scratch4 c a b) Kt := by
  rw [k0_part10_eq_skeleton]; unfold k0_part10_skel; simp only [wp_bind, wp_pure]
  refine sendAStep P K c 4 (by decide) (by decide) (congrArg Dev.tc (Fin.ext (dev_one c).1)) (pS_of (off1_eq c 4)) HEq.rfl rfl rfl ?_
  exact (h _).trans (wpc_ret c _ Kt)

theorem part11_run {a : BitVec 32} {Kt : _ → sProp 𝕄} (h : ∀ r, sendASt P K c r3 X ⊢ Kt r) :
    sendASt P K c r1 X ⊢ wpc c (k0_part11 xM hx qM hq kM hk vM hv wM hw outM ho pM hp rM hr cc0_scratch2 cc0_scratch3 cc0_scratch4 c a) Kt := by
  rw [k0_part11_eq_skeleton]; unfold k0_part11_skel; simp only [wp_bind, wp_pure]
  refine sendAStep P K c 3 (by decide) (by decide) (congrArg Dev.tc (Fin.ext (dev_one c).2.1)) (pS_of (off1_eq c 3)) HEq.rfl rfl rfl ?_
  refine sendAStep P K c 5 (by decide) (by decide) (congrArg Dev.tc (Fin.ext (dev_one c).2.2.1)) (pS_of (off1_eq c 5)) HEq.rfl rfl rfl ?_
  exact (h _).trans (wpc_ret c _ Kt)

theorem part12_run {a b : BitVec 32} {Kt : _ → sProp 𝕄} (h : ∀ r, sendASt P K c r4 X ⊢ Kt r) :
    sendASt P K c r3 X ⊢ wpc c (k0_part12 xM hx qM hq kM hk vM hv wM hw outM ho pM hp rM hr cc0_scratch2 cc0_scratch3 cc0_scratch4 c a b) Kt := by
  rw [k0_part12_eq_skeleton]; unfold k0_part12_skel; simp only [wp_bind, wp_pure]
  refine sendAStep P K c 2 (by decide) (by decide) (congrArg Dev.tc (Fin.ext (dev_one c).2.2.2.1)) (pS_of (off1_eq c 2)) HEq.rfl rfl rfl ?_
  exact (h _).trans (wpc_ret c _ Kt)

theorem part13_run {a : BitVec 32} {Kt : _ → sProp 𝕄} (h : ∀ r, sendASt P K c r6 X ⊢ Kt r) :
    sendASt P K c r4 X ⊢ wpc c (k0_part13 xM hx qM hq kM hk vM hv wM hw outM ho pM hp rM hr cc0_scratch2 cc0_scratch3 cc0_scratch4 c a) Kt := by
  rw [k0_part13_eq_skeleton]; unfold k0_part13_skel; simp only [wp_bind, wp_pure]
  refine sendAStep P K c 6 (by decide) (by decide) (congrArg Dev.tc (Fin.ext (dev_one c).2.2.2.2.1)) (pS_of (off1_eq c 6)) HEq.rfl rfl rfl ?_
  refine sendAStep P K c 1 (by decide) (by decide) (congrArg Dev.tc (Fin.ext (dev_one c).2.2.2.2.2.1)) (pS_of (off1_eq c 1)) HEq.rfl rfl rfl ?_
  exact (h _).trans (wpc_ret c _ Kt)

/-- All sent: what is owed is the second exchange. -/
theorem toRecvA : sendASt P K c r7 iprop(bigSep E0 (recvA c) ∗ X) ⊢ recvASt P K c E0 iprop(bigSep E0 (sent c) ∗ X) := by
  unfold sendASt recvASt; rw [mix_none _ _ r7 r7_empty, r7_empty, OA_empty, zero_add, mix_all]
  iintro ⟨H0, H1, H2, H3, H4⟩; iframe H0 H1 H2 H3 H4

/-- The device's own rows read. -/
theorem getOwn {off : Fin 3 → ℕ} (ho : off = ![0, 32 * c.val, 0]) {hb} {hl : pM.view.LoadsAt (Rect.unit (s := S2x256x512) off S2x32x512.size hb).toLoadRect}
    {f : S2x256x512.Idx → Elt F .f32} {R : Finset (Fin 8)} {Kt : (S2x32x512.Idx → Elt F .f32) → sProp 𝕄}
    (h : recvASt P K c R iprop(pPt c c f ∗ X) ⊢ Kt (ld f (rowRect c))) :
    recvASt P K c R iprop(pPt c c f ∗ X) ⊢ wpc c (Prog.lift (.load pM (Rect.unit (s := S2x256x512) off S2x32x512.size hb).toLoadRect hl)) Kt := by
  subst ho
  refine .trans ?_ (loadStep c (m := pM) (r := rowRect c) (X := iprop(ctx P K c ∗ ow c (OC c E0) ∗ mix (recvA c) (recvdA P c) R ∗ X)) (S := rowBlk c) (f := f) (q := fullShare)
    (pS_set c).subset (.trans ?_ h))
  · iintro ⟨H0, H1, H2, H3, H4⟩; iframe H0 H1 H2 H3 H4
  · iintro ⟨H3, H0, H1, H2, H4⟩; iframe H0 H1 H2 H3 H4
/-- A slot that has landed read. -/
theorem getSlot (o : Fin 8) {R : Finset (Fin 8)} (h0 : o ∈ E0) (h' : o ∉ R) {hl : rM.view.LoadsAt (slotRect o).toLoadRect}
    {Kt : (S1x2x32x512.Idx → Elt F .f32) → sProp 𝕄} (h : recvASt P K c R X ⊢ Kt (ld (landR P c) (slotRect o))) :
    recvASt P K c R X ⊢ wpc c (Prog.lift (.load rM (slotRect o).toLoadRect hl)) Kt := by
  refine .trans ?_ (loadStep c (m := rM) (r := slotRect o) (X := iprop((rPt c o (landR P c) -∗ mix (recvA c) (recvdA P c) R) ∗ ctx P K c ∗ ow c (OC c E0) ∗ X))
    (S := slotBlk o) (f := landR P c) (q := fullShare) (slot_access o).subset (.trans ?_ h))
  · iintro ⟨H0, H1, H2, H3⟩
    ihave H2' := (mix_look (recvA c) (recvdA P c) h0 h') $$ H2
    icases H2' with ⟨⟨Hp, Hat⟩, HW⟩
    isplitl [Hp]; · iexact Hp
    isplitl [Hat HW]
    · iintro Hp; iapply HW; isplitl [Hp]; · iexact Hp
      iexact Hat
    iframe H0 H1 H3
  · iintro ⟨Hp, HW, H0, H1, H3⟩
    isplitl [H0]; · iexact H0
    isplitl [H1]; · iexact H1
    isplitl [HW Hp]; · iapply HW; iexact Hp
    iexact H3

theorem part14_run {a b d e : BitVec 32} {Kt : _ → sProp 𝕄} (h : recvASt P K c q1 iprop(pPt c c (P c) ∗ bigSep E0 (sent c) ∗ X) ⊢ Kt (k0_pay21 (ld (P c) (rowRect c)) (ld (landR P c) (slotRect 1)))) :
    sendASt P K c r6 iprop(bigSep E0 (recvA c) ∗ pPt c c (P c) ∗ X) ⊢ wpc c (k0_part14 xM hx qM hq kM hk vM hv wM hw outM ho pM hp rM hr cc0_scratch2 cc0_scratch3 cc0_scratch4 c a b d e) Kt := by
  rw [k0_part14_eq_skeleton]; unfold k0_part14_skel; simp only [wp_bind, wp_pure]
  refine sendAStep P K c 7 (by decide) (by decide) (congrArg Dev.tc (Fin.ext (dev_one c).2.2.2.2.2.2)) (pS_of (off1_eq c 7)) HEq.rfl rfl rfl ?_
  refine (toRecvA P K c).trans ?_
  refine .trans (by iintro ⟨H0, H1, H2, H3, H4, H5⟩; iframe H0 H1 H2 H3 H4 H5) (getOwn P K c (X := iprop(bigSep E0 (sent c) ∗ X)) (off2_eq c) ?_)
  refine recvAStep P K c 1 (by decide) (by decide) rfl (by rfl) ?_
  refine getSlot P K c 1 (by decide) (by decide) ?_
  exact h.trans (wpc_ret c _ Kt)

theorem part15_run {a b : BitVec 32} {s : FVec F S2x32x512 .f32} {Kt : _ → sProp 𝕄} (h : recvASt P K c q3 X ⊢ Kt (k0_pay22 s (ld (landR P c) (slotRect 2)) (ld (landR P c) (slotRect 3)))) :
    recvASt P K c q1 X ⊢ wpc c (k0_part15 xM hx qM hq kM hk vM hv wM hw outM ho pM hp rM hr cc0_scratch2 cc0_scratch3 cc0_scratch4 c a b s) Kt := by
  rw [k0_part15_eq_skeleton]; unfold k0_part15_skel; simp only [wp_bind, wp_pure]
  refine recvAStep P K c 2 (by decide) (by decide) rfl (by rfl) ?_
  refine getSlot P K c 2 (by decide) (by decide) ?_
  refine recvAStep P K c 3 (by decide) (by decide) rfl (by rfl) ?_
  refine getSlot P K c 3 (by decide) (by decide) ?_
  exact h.trans (wpc_ret c _ Kt)

theorem part16_run {a b : BitVec 32} {s : FVec F S2x32x512 .f32} {Kt : _ → sProp 𝕄} (h : recvASt P K c q6 X ⊢ Kt (k0_pay23 s (ld (landR P c) (slotRect 4)) (ld (landR P c) (slotRect 5)) (ld (landR P c) (slotRect 6)))) :
    recvASt P K c q3 X ⊢ wpc c (k0_part16 xM hx qM hq kM hk vM hv wM hw outM ho pM hp rM hr cc0_scratch2 cc0_scratch3 cc0_scratch4 c a b s) Kt := by
  rw [k0_part16_eq_skeleton]; unfold k0_part16_skel; simp only [wp_bind, wp_pure]
  refine recvAStep P K c 4 (by decide) (by decide) rfl (by rfl) ?_
  refine getSlot P K c 4 (by decide) (by decide) ?_
  refine recvAStep P K c 5 (by decide) (by decide) rfl (by rfl) ?_
  refine getSlot P K c 5 (by decide) (by decide) ?_
  refine recvAStep P K c 6 (by decide) (by decide) rfl (by rfl) ?_
  refine getSlot P K c 6 (by decide) (by decide) ?_
  exact h.trans (wpc_ret c _ Kt)

/-- The sum stored into the device's own block of the result. -/
theorem putOwn {off : Fin 3 → ℕ} (ho : off = ![0, 32 * c.val, 0]) {hb} {f : S2x256x512.Idx → Elt F .f32} {s : S2x32x512.Idx → Elt F .f32} (hs : s = acc P c)
    {hx : (outM.access (Rect.unit (s := S2x256x512) off S2x32x512.size hb)).Stores Finset.univ}
    {hm : (Finset.univ : Finset (Rect.unit (s := S2x256x512) off S2x32x512.size hb).shape.Idx) = Finset.univ ∨ ∀ a, (Rect.unit (s := S2x256x512) off S2x32x512.size hb).stride a = 1}
    {Y Z W : sProp 𝕄} {Kt : PUnit → sProp 𝕄} (h : iprop(Y ∗ Z ∗ W ∗ oPt c c fullShare (gath P) ∗ X) ⊢ Kt ⟨⟩) :
    iprop(Y ∗ Z ∗ W ∗ oPt c c fullShare f ∗ X)
      ⊢ wpc c (Prog.lift (.store outM (Rect.unit (s := S2x256x512) off S2x32x512.size hb) s Finset.univ hx hm)) Kt := by
  subst ho hs
  refine .trans ?_ (storeStep c (m := outM) (r := rowRect c) (w := acc P c) (X := iprop(Y ∗ Z ∗ W ∗ X)) (S := rowBlk c) (f := f) (out_access c).subset (.trans ?_ h))
  · iintro ⟨H0, H1, H2, H3, H4⟩; iframe H0 H1 H2 H3 H4
  · iintro ⟨H3, H0, H1, H2, H4⟩
    have e : oPt c c fullShare ((outM.access (rowRect c)).write (Elt F) f (acc P c) Finset.univ)
        ⊢ oPt c c fullShare (gath P) := Entails.of_eq (pointsTo_congr fun i hi => store_acc P c f hi)
    ihave H3' := e $$ H3
    iframe H0 H1 H2 H3' H4
/-- The device's own block of the result read, whatever it holds. -/
theorem getOut {off : Fin 3 → ℕ} (ho : off = ![0, 32 * c.val, 0]) {hb} {hl : outM.view.LoadsAt (Rect.unit (s := S2x256x512) off S2x32x512.size hb).toLoadRect}
    {f : S2x256x512.Idx → Elt F .f32} {Y Z W : sProp 𝕄} {Kt : (S2x32x512.Idx → Elt F .f32) → sProp 𝕄}
    (h : ∀ g, iprop(Y ∗ Z ∗ W ∗ oPt c c fullShare f ∗ X) ⊢ Kt g) :
    iprop(Y ∗ Z ∗ W ∗ oPt c c fullShare f ∗ X) ⊢ wpc c (Prog.lift (.load outM (Rect.unit (s := S2x256x512) off S2x32x512.size hb).toLoadRect hl)) Kt := by
  subst ho
  refine .trans ?_ (loadStep c (m := outM) (r := rowRect c) (X := iprop(Y ∗ Z ∗ W ∗ X)) (S := rowBlk c) (f := f) (q := fullShare)
    (out_access c).subset (.trans ?_ (h _)))
  · iintro ⟨H0, H1, H2, H3, H4⟩; iframe H0 H1 H2 H3 H4
  · iintro ⟨H3, H0, H1, H2, H4⟩; iframe H0 H1 H2 H3 H4

abbrev atS (n : ℕ) (o : Fin 8) : sProp 𝕄 := atPos ER (sC c o) n ∅ 0
/-- All have landed: the waits for the sends begin. -/
theorem toBackA : recvASt P K c q7 iprop(X ∗ bigSep E0 (sent c) ∗ bigSep E0 (atS c 0)) ⊢ backASt P K c E0 iprop(bigSep E0 (recvdA P c) ∗ X) := by
  unfold recvASt backASt; rw [mix_none _ _ q7 q7_empty, mix_all]
  have e : iprop(bigSep E0 (sent c) ∗ bigSep E0 (atS c 0)) ⊢ (bigSep E0 (backA c) : sProp 𝕄) := (bigSep_sep' _ _ _).ge
  iintro ⟨H0, H1, H2, H3, H4⟩; ihave H5 := e $$ H4; iframe H0 H1 H2 H3 H5

/-- What the second exchange sends with. -/
abbrev grant (o : Fin 8) : sProp 𝕄 :=
  iprop((∃ f, oPt (c + o : Fin 8) c fullShare f) ∗ reached ER (bC (c + o : Fin 8) o) 0)
abbrev tokC (o : Fin 8) : sProp 𝕄 := iprop(dutyTok ER (sC c o) 1 0 ∗ dutyTok ER (bC (c + o : Fin 8) o) 0 0)
theorem toSendC : backASt P K c r7 iprop(bigSep E0 (recvdA P c) ∗ oPt c c fullShare (gath P) ∗ bigSep E0 (grant c) ∗ bigSep E0 (tokC c) ∗ X)
    ⊢ sendCSt P K c E0 iprop(bigSep E0 (recvdA P c) ∗ bigSep E0 (atS c 1) ∗ bigSep E0 (fun o => pPt c (c + o : Fin 8) (P c)) ∗ oPt c c (eighth 0) (gath P) ∗ X) := by
  unfold sendCSt backASt; rw [mix_none _ _ r7 r7_empty, mix_all]
  have e1 : (oPt c c fullShare (gath P) : sProp 𝕄) ⊢ iprop(oPt c c (eighth 0) (gath P) ∗ bigSep E0 fun o => oPt c c (eighth o) (gath P)) := by
    have e := Idealize.ShloMosaic.pointsTo_piecesOf (Ix := Unit) (Name := ℕ) (U := UU) (Lvl := ℕ) (Val := Elt F) (ℓ := (outS c).view.loc (c : Thread nD τ)) (rowBlk c) (gath P) (o := 8) (by decide) fullShare
    rw [BI.bigSep_erase (Finset.mem_univ (0 : Fin 8))] at e
    exact e.le
  have e2 : iprop(bigSep E0 (backdA P c)) ⊢ (iprop(bigSep E0 (fun o => pPt c (c + o : Fin 8) (P c)) ∗ bigSep E0 (atS c 1) ∗ bigSep E0 fun o => reached ER (sC c o) 1) : sProp 𝕄) := by
    unfold backdA; rw [bigSep_sep', bigSep_sep']
  have e3 : iprop((bigSep E0 fun o => oPt c c (eighth o) (gath P)) ∗ (bigSep E0 fun o => reached ER (sC c o) 1) ∗ bigSep E0 (grant c) ∗ bigSep E0 (tokC c))
      ⊢ (bigSep E0 (sendC P c) : sProp 𝕄) := by
    unfold sendC grant tokC; simp only [bigSep_sep']
    iintro ⟨H0, H1, ⟨H2, H3⟩, H4, H5⟩; iframe H0 H1 H2 H3 H4 H5
  iintro ⟨H0, H1, H2, H3, H4, H5, H6, H7⟩
  ihave H4' := e1 $$ H4
  icases H4' with ⟨H8, H9⟩
  ihave H2' := e2 $$ H2
  icases H2' with ⟨H10, H11, H12⟩
  ihave H13 := e3 $$ [H9 H12 H5 H6]
  · iframe H9 H12 H5 H6
  iframe H0 H13 H1 H3 H11 H10 H8 H7

/-! ## The second exchange -/

theorem toRecvC : sendCSt P K c r7 iprop(bigSep E0 (recvC c) ∗ X) ⊢ recvCSt P K c E0 iprop(bigSep E0 (sent c) ∗ X) := by
  unfold sendCSt recvCSt; rw [mix_none _ _ r7 r7_empty, r7_empty, mix_all]
  iintro ⟨H0, H1, H2, H3, H4⟩; iframe H0 H1 H2 H3 H4
theorem toBackC : recvCSt P K c r7 iprop(bigSep E0 (sent c) ∗ bigSep E0 (atS c 1) ∗ X) ⊢ backCSt P K c E0 iprop(bigSep E0 (recvdC P c) ∗ X) := by
  unfold recvCSt backCSt; rw [mix_none _ _ r7 r7_empty, mix_all]
  have e : iprop(bigSep E0 (sent c) ∗ bigSep E0 (atS c 1)) ⊢ (bigSep E0 (backC c) : sProp 𝕄) := (bigSep_sep' _ _ _).ge
  iintro ⟨H0, H1, H2, H3, H4, H5⟩; ihave H6 := e $$ [H3 H4]
  · iframe H3 H4
  iframe H0 H1 H2 H6 H5

theorem part17_run {a b : BitVec 32} {s : FVec F S2x32x512 .f32} (hs : k0_pay24 s (ld (landR P c) (slotRect 7)) = acc P c) {f : S2x256x512.Idx → Elt F .f32} {Kt : _ → sProp 𝕄} (h : ∀ r, backASt P K c r2 iprop(bigSep E0 (recvdA P c) ∗ oPt c c fullShare (gath P) ∗ X) ⊢ Kt r) :
    recvASt P K c q6 iprop(oPt c c fullShare f ∗ X ∗ bigSep E0 (sent c) ∗ bigSep E0 (atS c 0)) ⊢ wpc c (k0_part17 xM hx qM hq kM hk vM hv wM hw outM ho pM hp rM hr cc0_scratch2 cc0_scratch3 cc0_scratch4 c a b s) Kt := by
  rw [k0_part17_eq_skeleton]; unfold k0_part17_skel; simp only [wp_bind, wp_pure]
  refine recvAStep P K c 7 (by decide) (by decide) rfl (by rfl) ?_
  refine getSlot P K c 7 (by decide) (by decide) ?_
  refine getOut c (off2_eq c) fun _ => ?_
  refine putOwn P c (off2_eq c) hs ?_
  refine .trans (by iintro ⟨H0, H1, H2, H3, H4, H5, H6⟩; iframe H0 H1 H2 H3 H4 H5 H6) ((toBackA P K c (X := iprop(oPt c c fullShare (gath P) ∗ X))).trans ?_)
  refine backAStep P K c 4 (by decide) (by decide) rfl (by rfl) ?_
  refine backAStep P K c 3 (by decide) (by decide) rfl (by rfl) ?_
  exact (h _).trans (wpc_ret c _ Kt)

theorem part18_run {Kt : _ → sProp 𝕄} (h : ∀ r, backASt P K c r6 X ⊢ Kt r) :
    backASt P K c r2 X ⊢ wpc c (k0_part18 xM hx qM hq kM hk vM hv wM hw outM ho pM hp rM hr cc0_scratch2 cc0_scratch3 cc0_scratch4 c) Kt := by
  rw [k0_part18_eq_skeleton]; unfold k0_part18_skel; simp only [wp_bind, wp_pure]
  refine backAStep P K c 5 (by decide) (by decide) rfl (by rfl) ?_
  refine backAStep P K c 2 (by decide) (by decide) rfl (by rfl) ?_
  refine backAStep P K c 6 (by decide) (by decide) rfl (by rfl) ?_
  refine backAStep P K c 1 (by decide) (by decide) rfl (by rfl) ?_
  exact (h _).trans (wpc_ret c _ Kt)

theorem part19_run {a : BitVec 32} {Kt : _ → sProp 𝕄} (h : ∀ r, sendCSt P K c r1 iprop(bigSep E0 (recvdA P c) ∗ bigSep E0 (atS c 1) ∗ bigSep E0 (fun o => pPt c (c + o : Fin 8) (P c)) ∗ oPt c c (eighth 0) (gath P) ∗ X) ⊢ Kt r) :
    backASt P K c r6 iprop(bigSep E0 (recvdA P c) ∗ oPt c c fullShare (gath P) ∗ bigSep E0 (grant c) ∗ bigSep E0 (tokC c) ∗ X) ⊢ wpc c (k0_part19 xM hx qM hq kM hk vM hv wM hw outM ho pM hp rM hr cc0_scratch2 cc0_scratch3 cc0_scratch4 c a) Kt := by
  rw [k0_part19_eq_skeleton]; unfold k0_part19_skel; simp only [wp_bind, wp_pure]
  refine backAStep P K c 7 (by decide) (by decide) rfl (by rfl) ?_
  refine (toSendC P K c).trans ?_
  refine sendCStep P K c 4 (by decide) (by decide) (congrArg Dev.tc (Fin.ext (dev_two c).1)) (outS_of (off3_eq c)) (heq_of_eq (outS_of (off3_eq c))) rfl rfl ?_
  exact (h _).trans (wpc_ret c _ Kt)

theorem part20_run {a b d g : BitVec 32} {e : BitVec 1} {Kt : _ → sProp 𝕄} (h : ∀ r, sendCSt P K c r2 X ⊢ Kt r) :
    sendCSt P K c r1 X ⊢ wpc c (k0_part20 xM hx qM hq kM hk vM hv wM hw outM ho pM hp rM hr cc0_scratch2 cc0_scratch3 cc0_scratch4 c a b d e g) Kt := by
  rw [k0_part20_eq_skeleton]; unfold k0_part20_skel; simp only [wp_bind, wp_pure]
  refine sendCStep P K c 3 (by decide) (by decide) (congrArg Dev.tc (Fin.ext (dev_two c).2.1)) (outS_of (off3_eq c)) (heq_of_eq (outS_of (off3_eq c))) rfl rfl ?_
  exact (h _).trans (wpc_ret c _ Kt)

theorem part21_run {a b d : BitVec 32} {Kt : _ → sProp 𝕄} (h : ∀ r, sendCSt P K c r4 X ⊢ Kt r) :
    sendCSt P K c r2 X ⊢ wpc c (k0_part21 xM hx qM hq kM hk vM hv wM hw outM ho pM hp rM hr cc0_scratch2 cc0_scratch3 cc0_scratch4 c a b d) Kt := by
  rw [k0_part21_eq_skeleton]; unfold k0_part21_skel; simp only [wp_bind, wp_pure]
  refine sendCStep P K c 5 (by decide) (by decide) (congrArg Dev.tc (Fin.ext (dev_two c).2.2.1)) (outS_of (off3_eq c)) (heq_of_eq (outS_of (off3_eq c))) rfl rfl ?_
  refine sendCStep P K c 2 (by decide) (by decide) (congrArg Dev.tc (Fin.ext (dev_two c).2.2.2.1)) (outS_of (off3_eq c)) (heq_of_eq (outS_of (off3_eq c))) rfl rfl ?_
  exact (h _).trans (wpc_ret c _ Kt)

theorem part22_run {a b d e : BitVec 32} {Kt : _ → sProp 𝕄} (h : ∀ r, sendCSt P K c r5 X ⊢ Kt r) :
    sendCSt P K c r4 X ⊢ wpc c (k0_part22 xM hx qM hq kM hk vM hv wM hw outM ho pM hp rM hr cc0_scratch2 cc0_scratch3 cc0_scratch4 c a b d e) Kt := by
  rw [k0_part22_eq_skeleton]; unfold k0_part22_skel; simp only [wp_bind, wp_pure]
  refine sendCStep P K c 6 (by decide) (by decide) (congrArg Dev.tc (Fin.ext (dev_two c).2.2.2.2.1)) (outS_of (off3_eq c)) (heq_of_eq (outS_of (off3_eq c))) rfl rfl ?_
  exact (h _).trans (wpc_ret c _ Kt)

theorem part23_run {a b : BitVec 32} {Kt : _ → sProp 𝕄} (h : ∀ r, sendCSt P K c r7 X ⊢ Kt r) :
    sendCSt P K c r5 X ⊢ wpc c (k0_part23 xM hx qM hq kM hk vM hv wM hw outM ho pM hp rM hr cc0_scratch2 cc0_scratch3 cc0_scratch4 c a b) Kt := by
  rw [k0_part23_eq_skeleton]; unfold k0_part23_skel; simp only [wp_bind, wp_pure]
  refine sendCStep P K c 1 (by decide) (by decide) (congrArg Dev.tc (Fin.ext (dev_two c).2.2.2.2.2.1)) (outS_of (off3_eq c)) (heq_of_eq (outS_of (off3_eq c))) rfl rfl ?_
  refine sendCStep P K c 7 (by decide) (by decide) (congrArg Dev.tc (Fin.ext (dev_two c).2.2.2.2.2.2)) (outS_of (off3_eq c)) (heq_of_eq (outS_of (off3_eq c))) rfl rfl ?_
  exact (h _).trans (wpc_ret c _ Kt)

theorem part24_run {a b d e : BitVec 32} {Kt : _ → sProp 𝕄} (h : ∀ r, recvCSt P K c r4 iprop(bigSep E0 (sent c) ∗ X) ⊢ Kt r) :
    sendCSt P K c r7 iprop(bigSep E0 (recvC c) ∗ X) ⊢ wpc c (k0_part24 xM hx qM hq kM hk vM hv wM hw outM ho pM hp rM hr cc0_scratch2 cc0_scratch3 cc0_scratch4 c a b d e) Kt := by
  rw [k0_part24_eq_skeleton]; unfold k0_part24_skel; simp only [wp_bind, wp_pure]
  refine (toRecvC P K c).trans ?_
  refine recvCStep P K c 4 (by decide) (by decide) rfl (by rfl) ?_
  refine recvCStep P K c 3 (by decide) (by decide) rfl (by rfl) ?_
  refine recvCStep P K c 5 (by decide) (by decide) rfl (by rfl) ?_
  refine recvCStep P K c 2 (by decide) (by decide) rfl (by rfl) ?_
  exact (h _).trans (wpc_ret c _ Kt)

theorem part25_run {a b : BitVec 32} {Kt : _ → sProp 𝕄} (h : ∀ r, backCSt P K c r2 iprop(bigSep E0 (recvdC P c) ∗ X) ⊢ Kt r) :
    recvCSt P K c r4 iprop(bigSep E0 (sent c) ∗ bigSep E0 (atS c 1) ∗ X) ⊢ wpc c (k0_part25 xM hx qM hq kM hk vM hv wM hw outM ho pM hp rM hr cc0_scratch2 cc0_scratch3 cc0_scratch4 c a b) Kt := by
  rw [k0_part25_eq_skeleton]; unfold k0_part25_skel; simp only [wp_bind, wp_pure]
  refine recvCStep P K c 6 (by decide) (by decide) rfl (by rfl) ?_
  refine recvCStep P K c 1 (by decide) (by decide) rfl (by rfl) ?_
  refine recvCStep P K c 7 (by decide) (by decide) rfl (by rfl) ?_
  refine (toBackC P K c).trans ?_
  refine backCStep P K c 4 (by decide) (by decide) rfl (by rfl) ?_
  refine backCStep P K c 3 (by decide) (by decide) rfl (by rfl) ?_
  exact (h _).trans (wpc_ret c _ Kt)

end Parts

end Cert.KernelIdeal.Hand

end
-- ==== Proof.KernelIdeal.Whole.lean ====
/- The body of a kernel of `KernelIdeal` as a whole: the buffers cut into the blocks that move, the parts in a row. -/
module

public import proofs.«01_k».proof.Proof.KernelIdeal.Rounds
public import Idealize.ShloMosaic.Lib.Ring

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Facts]

local notation "𝕄" => MT nD τ sig Unit (Elt F) ℕ UU ℕ

/-! ## Buffers and their blocks -/

/-- The eight devices seen from device `c`, forwards and backwards. -/
def fwd (c : Fin 8) : Fin 8 ≃ Fin 8 := ⟨fun o => c + o, fun k => k - c, by revert c; decide, by revert c; decide⟩
def bwd (c : Fin 8) : Fin 8 ≃ Fin 8 := ⟨fun o => c - o, fun k => c - k, by revert c; decide, by revert c; decide⟩
theorem fwd_zero : ∀ c : Fin 8, (fwd c) 0 = c := by decide
theorem bwd_zero : ∀ c : Fin 8, (bwd c) 0 = c := by decide
def ngt : Fin 8 ≃ Fin 8 := ⟨fun o => -o, fun k => -k, by decide, by decide⟩

theorem split_at (e : Fin 8 ≃ Fin 8) (Φ : Fin 8 → sProp 𝕄) : bigSep Finset.univ Φ = iprop(Φ (e 0) ∗ bigSep E0 fun o => Φ (e o)) := by
  rw [bigSep_univ_equiv e, BI.bigSep_erase (Finset.mem_univ (0 : Fin 8))]; rfl

theorem rows_all : (Finset.univ.biUnion fun k : Fin 8 => rowBlk k) = Finset.univ :=
  Finset.eq_univ_iff_forall.mpr fun i => Finset.mem_biUnion.mpr ⟨blkOf i, Finset.mem_univ _, mem_rowBlk.mpr rfl⟩
theorem slots_all : (Finset.univ.biUnion fun k : Fin 8 => slotBlk k) = Finset.univ :=
  Finset.eq_univ_iff_forall.mpr fun i => Finset.mem_biUnion.mpr ⟨slotOf i, Finset.mem_univ _, mem_slotBlk.mpr rfl⟩

section Cut

variable (c : Dev nD)

abbrev oAll (f : S2x256x512.Idx → Elt F .f32) : sProp 𝕄 := iprop(outM.view.loc (c : Thread nD τ) ↦[Finset.univ]{fullShare} f)
abbrev rAll (f : S8x2x32x512.Idx → Elt F .f32) : sProp 𝕄 := iprop(rM.view.loc (c : Thread nD τ) ↦[Finset.univ]{fullShare} f)

theorem pAll_cut (f : S2x256x512.Idx → Elt F .f32) : pAll c f = iprop(pPt c c f ∗ bigSep E0 fun o => pPt c (c + o : Fin 8) f) := by
  have e := Ring.pointsTo_blocks (Ix := Unit) (Name := ℕ) (U := UU) (Lvl := ℕ) (Val := Elt F) (ℓ := pM.view.loc (c : Thread nD τ)) (fun k : Fin 8 => rowBlk k)
    (fun a b h => rowBlk_disjoint h) rows_all (q := fullShare) f
  rw [split_at (fwd c)] at e
  rw [fwd_zero c] at e
  exact e
theorem oAll_cut (f : S2x256x512.Idx → Elt F .f32) :
    oAll c f = iprop(oPt c c fullShare f ∗ bigSep E0 fun o => oPt c (c + o : Fin 8) fullShare f) := by
  have e := Ring.pointsTo_blocks (Ix := Unit) (Name := ℕ) (U := UU) (Lvl := ℕ) (Val := Elt F) (ℓ := outM.view.loc (c : Thread nD τ)) (fun k : Fin 8 => rowBlk k)
    (fun a b h => rowBlk_disjoint h) rows_all (q := fullShare) f
  rw [split_at (fwd c)] at e
  rw [fwd_zero c] at e
  exact e
theorem oAll_back (f : S2x256x512.Idx → Elt F .f32) :
    oAll c f = iprop(oPt c c fullShare f ∗ bigSep E0 fun o => oPt c (c - o : Fin 8) fullShare f) := by
  have e := Ring.pointsTo_blocks (Ix := Unit) (Name := ℕ) (U := UU) (Lvl := ℕ) (Val := Elt F) (ℓ := outM.view.loc (c : Thread nD τ)) (fun k : Fin 8 => rowBlk k)
    (fun a b h => rowBlk_disjoint h) rows_all (q := fullShare) f
  rw [split_at (bwd c)] at e
  rw [bwd_zero c] at e
  exact e
theorem own_cut (f : S2x256x512.Idx → Elt F .f32) :
    oPt c c fullShare f = iprop(oPt c c (eighth 0) f ∗ bigSep E0 fun o => oPt c c (eighth o) f) := by
  have e := Idealize.ShloMosaic.pointsTo_piecesOf (Ix := Unit) (Name := ℕ) (U := UU) (Lvl := ℕ) (Val := Elt F) (ℓ := (outS c).view.loc (c : Thread nD τ)) (rowBlk c) f (o := 8) (by decide) fullShare
  rw [BI.bigSep_erase (Finset.mem_univ (0 : Fin 8))] at e
  exact e
theorem rAll_cut (f : S8x2x32x512.Idx → Elt F .f32) : rAll c f = iprop(rPt c 0 f ∗ bigSep E0 fun o => rPt c (-o) f) := by
  have e := Ring.pointsTo_blocks (Ix := Unit) (Name := ℕ) (U := UU) (Lvl := ℕ) (Val := Elt F) (ℓ := rM.view.loc (c : Thread nD τ)) (fun k : Fin 8 => slotBlk k)
    (fun a b h => slotBlk_disjoint h) slots_all (q := fullShare) f
  rw [split_at ngt] at e
  rw [show ngt 0 = 0 by decide] at e
  exact e
theorem rAll_join (f g : S8x2x32x512.Idx → Elt F .f32) : iprop(rPt c 0 f ∗ bigSep E0 fun o => rPt c o g) ⊢ iprop(∃ h, rAll c h) := by
  refine .trans ?_ (Ring.pointsTo_blocks_join_exists (Ix := Unit) (Name := ℕ) (U := UU) (Lvl := ℕ) (Val := Elt F) (ℓ := rM.view.loc (c : Thread nD τ)) (fun k : Fin 8 => slotBlk k)
    (fun a b h => slotBlk_disjoint h) slots_all (q := fullShare) f)
  rw [BI.bigSep_erase (Finset.mem_univ (0 : Fin 8))]
  show _ ⊢ iprop((∃ f, rPt c 0 f) ∗ bigSep E0 fun b => iprop(∃ f, rM.view.loc (c : Thread nD τ) ↦[slotBlk b]{fullShare} f))
  have e : (bigSep E0 (fun o => rPt c o g) : sProp 𝕄) ⊢ bigSep E0 fun b => iprop(∃ f, rM.view.loc (c : Thread nD τ) ↦[slotBlk b]{fullShare} f) :=
    bigSep_mono fun o _ => by
      show rPt c o g ⊢ iprop(∃ f, rPt c o f)
      iintro H; iexists g; iexact H
  iintro ⟨H0, H1⟩
  isplitl [H0]; · iexists f; iexact H0
  iapply e; iexact H1

end Cut

section Parts

variable (P : Dev nD → S2x256x512.Idx → Elt F .f32) (K : GSem nD τ sig → ℕ) (c : Dev nD) {X : sProp (MT nD τ sig Unit (Elt F) ℕ UU ℕ)}
variable {hx : xM.IsWhole} {hq : qM.IsWhole} {hk : kM.IsWhole} {hv : vM.IsWhole} {hw : wM.IsWhole} {ho : outM.IsWhole} {hp : pM.IsWhole} {hr : rM.IsWhole}

/-! ## After the barrier -/

abbrev tokA (o : Fin 8) : sProp 𝕄 := iprop(dutyTok ER (sC c o) 0 0 ∗ dutyTok ER (aC (c + o : Fin 8) o) 0 0)
abbrev barAt (n m : ℕ) : sProp 𝕄 := iprop(cred (tallyAt (barC c) () m) ∗ atPos ER (barC c) n ∅ 0)

theorem toSendA (O Z : sProp 𝕄) (fo : S2x256x512.Idx → Elt F .f32) {g : S2x256x512.Idx → Elt F .f32} (hg : g = P c) :
    iprop(ctx P K c ∗ (bigSep E0 (barPay c) ∗ atPos ER (barC c) 1 ∅ 0) ∗ ow c (OA c E0 + OC c E0) ∗ O ∗ pAll c g
        ∗ bigSep E0 (tokA c) ∗ bigSep E0 (recvA c) ∗ bigSep E0 (atS c 0) ∗ bigSep E0 (tokC c) ∗ bigSep E0 (recvC c) ∗ oPt c c fullShare fo ∗ Z)
      ⊢ sendASt P K c E0 iprop(bigSep E0 (recvA c) ∗ pPt c c (P c) ∗ oPt c c fullShare fo ∗ bigSep E0 (atS c 0) ∗ bigSep E0 (grant c) ∗ bigSep E0 (tokC c)
          ∗ bigSep E0 (recvC c) ∗ atPos ER (barC c) 1 ∅ 0 ∗ O ∗ Z) := by
  subst hg; unfold sendASt; rw [mix_all, pAll_cut]
  have e : iprop(bigSep E0 (barPay c) ∗ (bigSep E0 fun o => pPt c (c + o : Fin 8) (P c)) ∗ bigSep E0 (tokA c))
      ⊢ iprop(bigSep E0 (sendA P c) ∗ (bigSep E0 (grant c) : sProp 𝕄)) := by
    rw [← bigSep_sep', ← bigSep_sep', ← bigSep_sep']
    refine bigSep_mono fun o _ => ?_
    unfold barPay
    show iprop(((∃ f, rPt (c + o : Fin 8) o f) ∗ (∃ f, oPt (c + o : Fin 8) c fullShare f) ∗ reached ER (aC (c + o : Fin 8) o) 0 ∗ reached ER (bC (c + o : Fin 8) o) 0)
      ∗ pPt c (c + o : Fin 8) (P c) ∗ tokA c o) ⊢ (iprop(sendA P c o ∗ grant c o) : sProp 𝕄)
    iintro ⟨⟨H0, H1, H2, H3⟩, H4, H5, H6⟩; iframe H0 H1 H2 H3 H4 H5 H6
  iintro ⟨H0, ⟨H1, H2⟩, H3, H4, ⟨H5, H6⟩, H7, H8, H9, H10, H11, H12, H13⟩
  ihave H14 := e $$ [H1 H6 H7]
  · iframe H1 H6 H7
  icases H14 with ⟨H15, H16⟩
  iframe H0 H15 H3 H8 H5 H12 H9 H16 H10 H11 H2 H4 H13

/-! ## The whole body -/

theorem wpc_bind {α β : Type} {p : Prog (TpuEff nD τ sig (Elt F) Λ₀ .tc) α} {g : α → Prog (TpuEff nD τ sig (Elt F) Λ₀ .tc) β} {Kt : β → sProp 𝕄} {Y : sProp 𝕄}
    (h : Y ⊢ wpc c p fun a => wpc c (g a) Kt) : Y ⊢ wpc c (p >>= g) Kt := by
  simp only [wp_bind]; exact h

variable (x : S2x256x512.Idx → Elt F .f32) (q : S512x256.Idx → Elt F .f32) (k v : S2x256x256.Idx → Elt F .f32) (w : S256x512.Idx → Elt F .f32)

/-- Before the body: the signals, the operands and the partial product's buffer, the barrier, and what the exchanges take. -/
abbrev bodyPre (f fo : S2x256x512.Idx → Elt F .f32) (Z : sProp 𝕄) : sProp 𝕄 :=
  sigSt P K c E0 iprop(opsPt c x q k v w ∗ pAll c f ∗ barAt c 0 7
    ∗ bigSep E0 (tokA c) ∗ bigSep E0 (recvA c) ∗ bigSep E0 (atS c 0) ∗ bigSep E0 (tokC c) ∗ bigSep E0 (recvC c) ∗ oPt c c fullShare fo ∗ Z)
/-- After it. -/
abbrev bodyPost (Z : sProp 𝕄) : sProp 𝕄 :=
  backCSt P K c r7 iprop(bigSep E0 (recvdC P c) ∗ bigSep E0 (recvdA P c) ∗ bigSep E0 (fun o => pPt c (c + o : Fin 8) (P c)) ∗ oPt c c (eighth 0) (gath P)
    ∗ pPt c c (P c) ∗ atPos ER (barC c) 1 ∅ 0 ∗ opsPt c x q k v w ∗ Z)

theorem body_run (hP : P c = part x q k v w) {f fo : S2x256x512.Idx → Elt F .f32} {Z : sProp 𝕄} {Kt : PUnit → sProp 𝕄}
    (h : bodyPost P K c x q k v w Z ⊢ Kt ⟨⟩) :
    bodyPre P K c x q k v w f fo Z ⊢ wpc c (cc0_body xM hx qM hq kM hk vM hv wM hw outM ho pM hp rM hr cc0_scratch2 cc0_scratch3 cc0_scratch4) Kt := by
  rw [cc0_body_eq_skeleton]; unfold cc0_body_skel; refine wpc_bind c ?_; rw [k0_part26_eq_skeleton]; unfold k0_part26_skel
  refine wpc_bind c ?_; refine part1_run P K c fun _ _ _ => ?_; try dsimp only
  refine wpc_bind c ?_; refine part2_run P K c fun _ => ?_; try dsimp only
  refine wpc_bind c ?_; refine part3_run P K c ?_; try dsimp only
  refine wpc_bind c ?_; refine part4_run c ?_; try dsimp only
  refine .trans (by iintro ⟨H0, H1, H2, H3, H4, H5⟩; iframe H0 H1 H2 H3 H4 H5) (show iprop(opsPt c x q k v w ∗ pAll c f ∗ ctx P K c ∗ barAt c 0 7 ∗ ow c (OA c E0 + OC c E0)
    ∗ bigSep E0 (tokA c) ∗ bigSep E0 (recvA c) ∗ bigSep E0 (atS c 0) ∗ bigSep E0 (tokC c) ∗ bigSep E0 (recvC c) ∗ oPt c c fullShare fo ∗ Z) ⊢ _ from ?_)
  refine wpc_bind c ?_; refine part5_run c x q k v w ?_; try dsimp only
  refine wpc_bind c ?_; refine part6_run c x q k v w ?_; try dsimp only
  refine wpc_bind c ?_; refine part7_run c x q k v w ?_; try dsimp only
  refine wpc_bind c ?_; refine part8_run c x q k v w ?_; try dsimp only
  refine wpc_bind c ?_; refine part9_run P K c x q k v w fun _ => ?_; try dsimp only
  refine (toSendA P K c _ Z fo ((stores_eq x q k v w f).trans hP.symm)).trans ?_
  refine wpc_bind c ?_; refine part10_run P K c fun _ => ?_; try dsimp only
  refine wpc_bind c ?_; refine part11_run P K c fun _ => ?_; try dsimp only
  refine wpc_bind c ?_; refine part12_run P K c fun _ => ?_; try dsimp only
  refine wpc_bind c ?_; refine part13_run P K c fun _ => ?_; try dsimp only
  refine wpc_bind c ?_; refine part14_run P K c ?_; try dsimp only
  refine wpc_bind c ?_; refine part15_run P K c ?_; try dsimp only
  refine wpc_bind c ?_; refine part16_run P K c ?_; try dsimp only
  refine .trans (by iintro ⟨H0, H1, H2, H3, H4, H5, H6, H7⟩; iframe H0 H1 H2 H3 H4 H5 H6 H7) (show recvASt P K c q6 iprop(oPt c c fullShare fo ∗ (pPt c c (P c)
    ∗ bigSep E0 (grant c) ∗ bigSep E0 (tokC c) ∗ bigSep E0 (recvC c) ∗ atPos ER (barC c) 1 ∅ 0 ∗ opsPt c x q k v w ∗ Z) ∗ bigSep E0 (sent c) ∗ bigSep E0 (atS c 0)) ⊢ _ from ?_)
  refine wpc_bind c ?_; refine part17_run P K c rfl fun _ => ?_; try dsimp only
  refine wpc_bind c ?_; refine part18_run P K c fun _ => ?_; try dsimp only
  refine .trans (by iintro ⟨H0, H1, H2, H3, H4, H5, H6, H7, H8⟩; iframe H0 H1 H2 H3 H4 H5 H6 H7 H8) (show backASt P K c r6 iprop(bigSep E0 (recvdA P c) ∗ oPt c c fullShare (gath P)
    ∗ bigSep E0 (grant c) ∗ bigSep E0 (tokC c) ∗ bigSep E0 (recvC c) ∗ pPt c c (P c) ∗ atPos ER (barC c) 1 ∅ 0 ∗ opsPt c x q k v w ∗ Z) ⊢ _ from ?_)
  refine wpc_bind c ?_; refine part19_run P K c fun _ => ?_; try dsimp only
  refine wpc_bind c ?_; refine part20_run P K c fun _ => ?_; try dsimp only
  refine wpc_bind c ?_; refine part21_run P K c fun _ => ?_; try dsimp only
  refine wpc_bind c ?_; refine part22_run P K c fun _ => ?_; try dsimp only
  refine wpc_bind c ?_; refine part23_run P K c fun _ => ?_; try dsimp only
  refine .trans (by iintro ⟨H0, H1, H2, H3, H4, H5, H6, H7, H8⟩; iframe H0 H1 H2 H3 H4 H5 H6 H7 H8) (show sendCSt P K c r7 iprop(bigSep E0 (recvC c) ∗ bigSep E0 (atS c 1) ∗ bigSep E0 (recvdA P c)
    ∗ bigSep E0 (fun o => pPt c (c + o : Fin 8) (P c)) ∗ oPt c c (eighth 0) (gath P) ∗ pPt c c (P c) ∗ atPos ER (barC c) 1 ∅ 0 ∗ opsPt c x q k v w ∗ Z) ⊢ _ from ?_)
  refine wpc_bind c ?_; refine part24_run P K c fun _ => ?_; try dsimp only
  refine wpc_bind c ?_; refine part25_run P K c fun _ => ?_; try dsimp only
  simp only [wp_bind, wp_pure]
  refine backCStep P K c 5 (by decide) (by decide) rfl (by rfl) ?_
  refine backCStep P K c 2 (by decide) (by decide) rfl (by rfl) ?_
  refine backCStep P K c 6 (by decide) (by decide) rfl (by rfl) ?_
  refine .trans ?_ (wpc_ret c _ _)
  refine backCStep P K c 1 (by decide) (by decide) rfl (by rfl) ?_
  refine backCStep P K c 7 (by decide) (by decide) rfl (by rfl) ?_
  exact h.trans (wpc_ret c _ Kt)

end Parts

end Cert.KernelIdeal.Hand

end
-- ==== Proof.KernelIdeal.Region.lean ====
/- The kernel of `KernelIdeal` as a region of the program: its semaphores opened, the body run, its semaphores closed. -/
module

public import proofs.«01_k».proof.Proof.KernelIdeal.Whole
public import proofs.«01_k».proof.Proof.Gen.KernelIdeal.Points
public import proofs.«01_k».proof.Proof.Gen.KernelIdeal.Regions
public import Idealize.ShloMosaic.Lib.Pipeline.RegionTalk

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F] [Facts]

local notation "𝕄" => MT nD τ sig Unit (Elt F) ℕ UU ℕ

/-! ## The semaphores of one device -/

/-- A resource per DMA semaphore of the kernel: the eight for what is sent, the eight of the first exchange, the eight of the second. -/
theorem sems_cut (Φ : Fin 24 → sProp 𝕄) :
    bigSep Finset.univ Φ = iprop((bigSep Finset.univ fun o : Fin 8 => Φ (kS o)) ∗ (bigSep Finset.univ fun o : Fin 8 => Φ (kA o)) ∗ bigSep Finset.univ fun o : Fin 8 => Φ (kB o)) := by
  rw [bigSep_univ_equiv (finProdFinEquiv : Fin 3 × Fin 8 ≃ Fin 24), bigSep_univ_prod,
    bigSep_univ_eq_bigSepL [(0 : Fin 3), (1 : Fin 3), (2 : Fin 3)] (by decide) (by decide)]
  have h0 : ∀ o : Fin 8, (finProdFinEquiv : Fin 3 × Fin 8 ≃ Fin 24) (0, o) = kS o := by decide
  have h1 : ∀ o : Fin 8, (finProdFinEquiv : Fin 3 × Fin 8 ≃ Fin 24) (1, o) = kA o := by decide
  have h2 : ∀ o : Fin 8, (finProdFinEquiv : Fin 3 × Fin 8 ≃ Fin 24) (2, o) = kB o := by decide
  show iprop((bigSep Finset.univ fun o : Fin 8 => Φ ((finProdFinEquiv : Fin 3 × Fin 8 ≃ Fin 24) (0, o))) ∗ (bigSep Finset.univ fun o : Fin 8 => Φ ((finProdFinEquiv : Fin 3 × Fin 8 ≃ Fin 24) (1, o)))
    ∗ bigSep Finset.univ fun o : Fin 8 => Φ ((finProdFinEquiv : Fin 3 × Fin 8 ≃ Fin 24) (2, o))) = _
  simp only [h0, h1, h2]

theorem at_zero (Φ : Fin 8 → sProp 𝕄) : bigSep Finset.univ Φ = iprop(Φ 0 ∗ bigSep E0 Φ) := BI.bigSep_erase (Finset.mem_univ (0 : Fin 8))

section Ends

variable (P : Dev nD → S2x256x512.Idx → Elt F .f32) (K : GSem nD τ sig → ℕ) (c : Dev nD)

/-- The tokens of what device `c` pays. -/
abbrev payToks : sProp 𝕄 := iprop((bigSep E0 fun s => dutyTok ER (barC (c + s : Fin 8)) 0 (-s)) ∗ bigSep E0 (tokA c) ∗ bigSep E0 (tokC c))
/-- The credit it holds at launch. -/
abbrev creds0 : sProp 𝕄 := iprop(cred (tallyAt (barC c) () 7) ∗ (bigSep E0 fun o => cred (tallyAt (aC c o) () N)) ∗ bigSep E0 fun o => cred (tallyAt (bC c o) () N))
/-- What it holds at launch beside what all may consult. -/
abbrev linear : sProp 𝕄 := iprop(atPos ER (barC c) 0 ∅ 0 ∗ (bigSep Finset.univ fun k : Fin 24 => openTok ER ((c : Thread nD τ), osem k)) ∗ payToks c)

/-- The protocol's state before the region. -/
abbrev Tk : sProp 𝕄 := iprop((∃ K, records P K ∗ linear c) ∗ creds0 c)
/-- Once the region's semaphores are open. -/
abbrev Xk : sProp 𝕄 :=
  iprop((∃ K, ctx P K c ∗ atPos ER (barC c) 0 ∅ 0 ∗ (bigSep Finset.univ fun k : Fin 24 => atPos ER ((c : Thread nD τ), osem k) 0 ∅ 0) ∗ payToks c) ∗ creds0 c)
/-- After the region. -/
abbrev Yk : sProp 𝕄 := semVal (barC c) 0

theorem ownSems_eq : (Pipeline.ownSems0 (Ix := Unit) (Name := ℕ) (U := UU) (Lvl := ℕ) (Val := Elt F) (τ := τ) osem c : sProp 𝕄)
    = bigSep Finset.univ fun k : Fin 24 => semVal ((c : Thread nD τ), osem k) 0 := rfl

theorem records_inv {g : GSem nD τ sig} (hg : g ∈ (barCells ∪ scCells : Finset (GSem nD τ sig))) : records P K ⊢ cellInv ER (Rd P) (K g) g := by
  unfold records
  have h : (bigSep (barCells ∪ scCells) fun g => (cellInv ER (Rd P) (K g) g : sProp 𝕄)) ⊢ cellInv ER (Rd P) (K g) g := bigSep_elim hg
  iintro ⟨H, -⟩; iapply h; iexact H

theorem with_records {I : Type} [DecidableEq I] (S : Finset I) {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The region's semaphores, opened. -/
theorem open_all : iprop(Tk P c ∗ Pipeline.ownSems0 osem c ∗ levAts L lv) ⊢ (|={Set.univ}=> Xk P c : sProp 𝕄) := by
  rw [ownSems_eq]
  iintro ⟨⟨⟨%K, #HR, Hb, Ho, Ht⟩, Hc⟩, Hs, #Hl⟩
  have e : iprop(records P K ∗ bigSep Finset.univ fun k : Fin 24 => iprop(openTok ER ((c : Thread nD τ), osem k) ∗ semVal ((c : Thread nD τ), osem k) 0))
      ⊢ (|={Set.univ}=> bigSep Finset.univ fun k : Fin 24 => iprop(atPos ER ((c : Thread nD τ), osem k) 0 ∅ 0 ∗ reached ER ((c : Thread nD τ), osem k) 0) : sProp 𝕄) := by
    refine .trans (with_records Finset.univ fun k _ => ?_) (bigSep_fupd _ _)
    iintro ⟨HR, Ho, Hv⟩
    iapply (Rounds.cell_open ER (Rd P) (g := ((c : Thread nD τ), osem k)) (Set.mem_univ (K ((c : Thread nD τ), osem k))))
    isplitl [HR]; · iapply (records_inv P K (sc_mem c k)); iexact HR
    isplitl [Ho] <;> iassumption
  simp only [bigSep_sep'] at e
  imod e $$ [Ho Hs] with ⟨Ha, #Hr⟩
  · isplitr; · iexact HR
    isplitl [Ho] <;> iassumption
  imodintro
  isplitr [Hc]
  · iexists K
    isplitr
    · unfold ctx
      isplitr; · iexact HR
      isplitr; · iexact Hl
      iexact Hr
    isplitl [Hb]; · iexact Hb
    isplitl [Ha]; · iexact Ha
    iexact Ht
  iexact Hc

/-- A semaphore no duty of which is left, closed. -/
theorem close_one {g : GSem nD τ sig} (hg : g ∈ (barCells ∪ scCells : Finset (GSem nD τ sig))) {R : ℕ} (h : ∀ r, R ≤ r → (Rd (F := F) P).duties g r = ∅) :
    iprop(ctx P K c ∗ atPos ER g R ∅ 0) ⊢ (|={Set.univ}=> semVal g 0 : sProp 𝕄) := by
  iintro ⟨HC, Ha⟩
  iapply (Rounds.cell_close ER (Rd P) (Set.mem_univ (K g)) id h)
  isplitl [HC]; · iapply (ctx_inv P K c hg); iexact HC
  iexact Ha

theorem close_at (cell : Fin 8 → GSem nD τ sig) (hg : ∀ o, cell o ∈ (barCells ∪ scCells : Finset (GSem nD τ sig))) (R : ℕ)
    (h0 : ∀ r, (Rd (F := F) P).duties (cell 0) r = ∅) (h : ∀ o r, R ≤ r → (Rd (F := F) P).duties (cell o) r = ∅) :
    iprop(ctx P K c ∗ atPos ER (cell 0) 0 ∅ 0 ∗ bigSep E0 fun o => atPos ER (cell o) R ∅ 0)
      ⊢ (|={Set.univ}=> bigSep Finset.univ fun o : Fin 8 => semVal (cell o) 0 : sProp 𝕄) := by
  rw [at_zero]
  iintro ⟨#HC, Ha, Hb⟩
  imod (close_one P K c (hg 0) (R := 0) fun r _ => h0 r) $$ [Ha] with H0
  · isplitr; · iexact HC
    iexact Ha
  have e : iprop(ctx P K c ∗ bigSep E0 fun o => atPos ER (cell o) R ∅ 0) ⊢ (|={Set.univ}=> bigSep E0 fun o : Fin 8 => semVal (cell o) 0 : sProp 𝕄) :=
    .trans (with_records E0 fun o _ => close_one P K c (hg o) (h o)) (bigSep_fupd _ _)
  imod e $$ [Hb] with H1
  · isplitr; · iexact HC
    iexact Hb
  imodintro
  isplitl [H0] <;> iassumption

variable (x : S2x256x512.Idx → Elt F .f32) (q : S512x256.Idx → Elt F .f32) (k v : S2x256x256.Idx → Elt F .f32) (w : S256x512.Idx → Elt F .f32)

/-- What the body leaves alone: the landing slot no copy fills, and the semaphores of the offset no copy takes. -/
abbrev aside (g : S8x2x32x512.Idx → Elt F .f32) : sProp 𝕄 := iprop(rPt c 0 g ∗ atPos ER (sC c 0) 0 ∅ 0 ∗ atPos ER (aC c 0) 0 ∅ 0 ∗ atPos ER (bC c 0) 0 ∅ 0)

/-- What the region hands the body is what the body starts with. -/
theorem enter (f fo : S2x256x512.Idx → Elt F .f32) (g : S8x2x32x512.Idx → Elt F .f32) (Z : sProp 𝕄) :
    iprop(ctx P K c ∗ atPos ER (barC c) 0 ∅ 0 ∗ (bigSep Finset.univ fun k : Fin 24 => atPos ER ((c : Thread nD τ), osem k) 0 ∅ 0) ∗ payToks c ∗ creds0 c
        ∗ ow c (O₀ c) ∗ opsPt c x q k v w ∗ pAll c f ∗ rAll c g ∗ oAll c fo ∗ Z)
      ⊢ bodyPre P K c x q k v w f fo iprop(aside c g ∗ Z) := by
  rw [sems_cut, at_zero (fun o => atPos ER ((c : Thread nD τ), osem (kS o)) 0 ∅ 0), at_zero (fun o => atPos ER ((c : Thread nD τ), osem (kA o)) 0 ∅ 0),
    at_zero (fun o => atPos ER ((c : Thread nD τ), osem (kB o)) 0 ∅ 0)]
  simp only [osem_kS, osem_kA, osem_kB]
  unfold bodyPre sigSt
  rw [mix_all, rAll_cut, oAll_cut, show O₀ c = OB c E0 + (OA c E0 + OC c E0) from add_assoc _ _ _]
  have e1 : iprop((bigSep E0 fun s => dutyTok ER (barC (c + s : Fin 8)) 0 (-s)) ∗ (bigSep E0 fun o => rPt c (-o) g) ∗ (bigSep E0 fun o => oPt c (c + o : Fin 8) fullShare fo))
      ⊢ (bigSep E0 (sigRes c) : sProp 𝕄) := by
    rw [← bigSep_sep', ← bigSep_sep']
    refine bigSep_mono fun o _ => ?_
    show iprop(dutyTok ER (barC (c + o : Fin 8)) 0 (-o) ∗ rPt c (-o) g ∗ oPt c (c + o : Fin 8) fullShare fo) ⊢ sigRes c o
    iintro ⟨H0, H1, H2⟩
    isplitl [H0]; · iexact H0
    isplitl [H1]; · iexists g; iexact H1
    iexists fo; iexact H2
  have e2 : iprop((bigSep E0 fun o => cred (tallyAt (aC c o) () N)) ∗ bigSep E0 fun o => atPos ER (aC c o) 0 ∅ 0) ⊢ (bigSep E0 (recvA c) : sProp 𝕄) := by
    rw [← bigSep_sep']
  have e3 : iprop((bigSep E0 fun o => cred (tallyAt (bC c o) () N)) ∗ bigSep E0 fun o => atPos ER (bC c o) 0 ∅ 0) ⊢ (bigSep E0 (recvC c) : sProp 𝕄) := by
    rw [← bigSep_sep']
  iintro ⟨HC, Hb, ⟨⟨Hs0, Hs⟩, ⟨Ha0, Ha⟩, Hb0, Hbb⟩, ⟨Ht1, Ht2, Ht3⟩, ⟨Hc1, Hc2, Hc3⟩, HO, Hops, Hp, ⟨Hr0, Hr⟩, ⟨Ho0, Ho⟩, HZ⟩
  ihave H1 := e1 $$ [Ht1 Hr Ho]
  · iframe Ht1 Hr Ho
  ihave H2 := e2 $$ [Hc2 Ha]
  · iframe Hc2 Ha
  ihave H3 := e3 $$ [Hc3 Hbb]
  · iframe Hc3 Hbb
  iframe HC H1 HO Hops Hp Hc1 Hb Ht2 H2 Hs Ht3 H3 Ho0 Hr0 Hs0 Ha0 Hb0 HZ

/-- What the body ends with, its semaphores closed, is what the region gives back. -/
theorem leave (g : S8x2x32x512.Idx → Elt F .f32) (Z : sProp 𝕄) :
    bodyPost P K c x q k v w iprop(aside c g ∗ Z)
      ⊢ (|={Set.univ}=> iprop(semVal (barC c) 0 ∗ (bigSep Finset.univ fun k : Fin 24 => semVal ((c : Thread nD τ), osem k) 0)
          ∗ ow c 0 ∗ opsPt c x q k v w ∗ pAll c (P c) ∗ (∃ h, rAll c h) ∗ oAll c (gath P) ∗ Z) : sProp 𝕄) := by
  rw [sems_cut]
  simp only [osem_kS, osem_kA, osem_kB]
  unfold bodyPost backCSt
  rw [mix_none _ _ r7 r7_empty, OC_empty, pAll_cut, oAll_back, own_cut]
  have e1 : bigSep E0 (backdC P c) ⊢ iprop((bigSep E0 fun o => oPt c c (eighth o) (gath P)) ∗ bigSep E0 fun o => (atPos ER (sC c o) 2 ∅ 0 : sProp 𝕄)) := by
    rw [← bigSep_sep']
  have e2 : bigSep E0 (recvdA P c) ⊢ iprop((bigSep E0 fun o => rPt c o (landR P c)) ∗ bigSep E0 fun o => (atPos ER (aC c o) 1 ∅ 0 : sProp 𝕄)) := by
    rw [← bigSep_sep']
  have e3 : bigSep E0 (recvdC P c) ⊢ iprop((bigSep E0 fun o => oPt c (c - o : Fin 8) fullShare (gath P)) ∗ bigSep E0 fun o => (atPos ER (bC c o) 1 ∅ 0 : sProp 𝕄)) := by
    rw [← bigSep_sep']
  iintro ⟨#HC, HO, H1, H3, H2, Hp, Ho0, Hp0, Hb, Hops, ⟨Hr0, Hs0, Ha0, Hb0⟩, HZ⟩
  ihave H1 := e1 $$ H1; icases H1 with ⟨H1, Hs⟩
  ihave H2 := e2 $$ H2; icases H2 with ⟨H2, Ha⟩
  ihave H3 := e3 $$ H3; icases H3 with ⟨H3, Hbb⟩
  imod (close_one P K c (bar_mem c) (R := 1) fun r h => duties_bar_later P c r h) $$ [Hb] with Hbar
  · isplitr; · iexact HC
    iexact Hb
  imod (close_at P K c (sC c) (s_mem c) 2 (fun r => duties_zero P c (sS 0) rfl r) fun o r h => duties_later2 P c (sS o) r h) $$ [Hs0 Hs] with HS
  · isplitr; · iexact HC
    isplitl [Hs0] <;> iassumption
  imod (close_at P K c (aC c) (a_mem c) 1 (fun r => duties_zero P c (aS 0) rfl r) fun o r h => duties_later1 P c (aS o) (by show 14 ≤ 14 + o.val; omega) r h) $$ [Ha0 Ha] with HA
  · isplitr; · iexact HC
    isplitl [Ha0] <;> iassumption
  imod (close_at P K c (bC c) (b_mem c) 1 (fun r => duties_zero P c (bS 0) rfl r) fun o r h => duties_later1 P c (bS o) (by show 14 ≤ 22 + o.val; omega) r h) $$ [Hb0 Hbb] with HB
  · isplitr; · iexact HC
    isplitl [Hb0] <;> iassumption
  ihave HR := (rAll_join c g (landR P c)) $$ [Hr0 H2]
  · iframe Hr0 H2
  imodintro
  iframe Hbar HS HA HB HO Hops Hp0 Hp HR Ho0 H1 H3 HZ

end Ends

/-! ## The arrays as the windows stage them -/

section Windows

theorem whole0 (f : S2x256x512.Idx → Elt F .f32) : ((cfg0.win 0).blk t0_0).view.read (Elt F) f = f := by
  funext i; show f _ = f _; refine congrArg f (funext fun a => Fin.ext ?_)
  show 0 * _ + 1 * (i a).val = (i a).val; omega
theorem whole1 (f : S512x256.Idx → Elt F .f32) : ((cfg0.win 1).blk t0_0).view.read (Elt F) f = f := by
  funext i; show f _ = f _; refine congrArg f (funext fun a => Fin.ext ?_)
  show 0 * _ + 1 * (i a).val = (i a).val; omega
theorem whole2 (f : S2x256x256.Idx → Elt F .f32) : ((cfg0.win 2).blk t0_0).view.read (Elt F) f = f := by
  funext i; show f _ = f _; refine congrArg f (funext fun a => Fin.ext ?_)
  show 0 * _ + 1 * (i a).val = (i a).val; omega
theorem whole3 (f : S2x256x256.Idx → Elt F .f32) : ((cfg0.win 3).blk t0_0).view.read (Elt F) f = f := by
  funext i; show f _ = f _; refine congrArg f (funext fun a => Fin.ext ?_)
  show 0 * _ + 1 * (i a).val = (i a).val; omega
theorem whole4 (f : S256x512.Idx → Elt F .f32) : ((cfg0.win 4).blk t0_0).view.read (Elt F) f = f := by
  funext i; show f _ = f _; refine congrArg f (funext fun a => Fin.ext ?_)
  show 0 * _ + 1 * (i a).val = (i a).val; omega
theorem whole5 (f : S2x256x512.Idx → Elt F .f32) : ((cfg0.win 5).blk t0_0).view.read (Elt F) f = f := by
  funext i; show f _ = f _; refine congrArg f (funext fun a => Fin.ext ?_)
  show 0 * _ + 1 * (i a).val = (i a).val; omega

end Windows

/-! ## The region -/

variable (m : (ℓ : Loc nD τ sig) → Buf (Elt F) ℓ)

/-- What each device is handed: its rows of x, its columns of the query weights, its heads' keys and values, its rows of the output weights. -/
def xA (c : Dev nD) : S2x256x512.Idx → Elt F .f32 := V1 m c main_arg0
def qA (c : Dev nD) : S512x256.Idx → Elt F .f32 := V1 m c main_arg1
def kA' (c : Dev nD) : S2x256x256.Idx → Elt F .f32 := V1 m c main_v10
def vA (c : Dev nD) : S2x256x256.Idx → Elt F .f32 := V1 m c main_v16
def wA (c : Dev nD) : S256x512.Idx → Elt F .f32 := V1 m c main_arg4

/-- What each device's body computes from what it is handed. -/
def PP (c : Dev nD) : S2x256x512.Idx → Elt F .f32 := part (xA m c) (qA m c) (kA' m c) (vA m c) (wA m c)

/-- Before the body: the protocol's state, the scratch buffers, the random numbers' register. -/
def Φ0 (c : Dev nD) : sProp 𝕄 := iprop(Xk (PP m) c ∗ (∃ f, pAll c f) ∗ (∃ g, rAll c g) ∗ ∃ r, prngReg c r)
/-- After it: every semaphore at zero. -/
def Φ1 (c : Dev nD) : sProp 𝕄 :=
  iprop(Yk c ∗ (bigSep Finset.univ fun k : Fin 24 => semVal ((c : Thread nD τ), osem k) 0) ∗ (∃ f, pAll c f) ∗ (∃ g, rAll c g) ∗ ∃ r, prngReg c r)

/-- The region's proof data: the arrays as the host operations left them, the result at the gathered sum. -/
def dat0 (c : Dev nD) : Dat τ (Elt F) Unit ℕ UU ℕ cfg0 c where
  A w := V1 m c (Proc.devRef .tc (Pipeline.arrRef spec0 w))
  after w _ := match w with
    | ⟨0, _⟩ => xA m c
    | ⟨1, _⟩ => qA m c
    | ⟨2, _⟩ => kA' m c
    | ⟨3, _⟩ => vA m c
    | ⟨4, _⟩ => wA m c
    | ⟨5, _⟩ => gath (PP m)
  Φ t := if t.val = 0 then Φ0 m c else Φ1 c
  q _ := fullShare
  owed t := if t.val = 0 then O₀ c else 0

theorem owed_first (c : Dev nD) : (dat0 (F := F) m c).owed t0_0.castSucc = O₀ c := by
  show (if (t0_0.castSucc : Fin (cfg0.N + 1)).val = 0 then O₀ c else 0) = O₀ c; exact if_pos rfl
theorem owed_next (c : Dev nD) : (dat0 (F := F) m c).owed t0_0.succ = 0 := by
  show (if (t0_0.succ : Fin (cfg0.N + 1)).val = 0 then O₀ c else 0) = 0; exact if_neg (Nat.succ_ne_zero _)
theorem Φ_first (c : Dev nD) : (dat0 (F := F) m c).Φ t0_0.castSucc = Φ0 m c := by
  show (if (t0_0.castSucc : Fin (cfg0.N + 1)).val = 0 then Φ0 m c else Φ1 c) = Φ0 m c; exact if_pos rfl
theorem Φ_next (c : Dev nD) : (dat0 (F := F) m c).Φ t0_0.succ = Φ1 c := by
  show (if (t0_0.succ : Fin (cfg0.N + 1)).val = 0 then Φ0 m c else Φ1 c) = Φ1 c; exact if_neg (Nat.succ_ne_zero _)

theorem before_fetched {c : Dev nD} (dat : Dat τ (Elt F) Unit ℕ UU ℕ cfg0 c) (w : Fin cfg0.W) (t : Fin cfg0.N) (h : (cfg0.win w).fetch t = true)
    (d : (cfg0.win w).block.Idx → Elt F (cfg0.win w).elt) : dat.before w t d = dat.fetched w t d := by
  unfold Dat.before; exact if_pos h
theorem before0 (c : Dev nD) (d : (cfg0.win 0).block.Idx → Elt F (cfg0.win 0).elt) : (dat0 m c).before 0 t0_0 d = xA m c :=
  (before_fetched (dat0 m c) 0 t0_0 (fetch0_0 _) d).trans (whole0 (xA m c))
theorem before1 (c : Dev nD) (d : (cfg0.win 1).block.Idx → Elt F (cfg0.win 1).elt) : (dat0 m c).before 1 t0_0 d = qA m c :=
  (before_fetched (dat0 m c) 1 t0_0 (fetch0_1 _) d).trans (whole1 (qA m c))
theorem before2 (c : Dev nD) (d : (cfg0.win 2).block.Idx → Elt F (cfg0.win 2).elt) : (dat0 m c).before 2 t0_0 d = kA' m c :=
  (before_fetched (dat0 m c) 2 t0_0 (fetch0_2 _) d).trans (whole2 (kA' m c))
theorem before3 (c : Dev nD) (d : (cfg0.win 3).block.Idx → Elt F (cfg0.win 3).elt) : (dat0 m c).before 3 t0_0 d = vA m c :=
  (before_fetched (dat0 m c) 3 t0_0 (fetch0_3 _) d).trans (whole3 (vA m c))
theorem before4 (c : Dev nD) (d : (cfg0.win 4).block.Idx → Elt F (cfg0.win 4).elt) : (dat0 m c).before 4 t0_0 d = wA m c :=
  (before_fetched (dat0 m c) 4 t0_0 (fetch0_4 _) d).trans (whole4 (wA m c))

/-- A whole buffer owned is the buffer held. -/
theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owes_in (c : Dev nD) : ow c 0 ⊢ ((dat0 m c).owesAt () t0_0.succ : sProp 𝕄) := by
  unfold Dat.owesAt Pipeline.owesWithin Dat.bound; rw [owed_next]
  iintro ⟨%W, HO⟩; iexists W; isplitr; · ipureintro; exact fun _ _ => Or.inl trivial
  iexact HO
theorem owes_out (c : Dev nD) : ((dat0 m c).owesAt () t0_0.castSucc : sProp 𝕄) ⊢ ow c (O₀ c) := by
  unfold Dat.owesAt Pipeline.owesWithin; rw [owed_first]
  iintro ⟨%W, -, HO⟩; iexists W; iexact HO

/-- A staging buffer held whole, at contents named. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_intro (c : Dev nD) (b : Ref sig .tc) (X : b.ty.Contents (Elt F)) : (((c : Thread nD τ).loc b) ↦{fullShare} X : sProp 𝕄) ⊢ stg c b X := by
  iintro H; iexists X; isplitr; · ipureintro; rfl
  iexact H

/-- The region's state after the body. -/
abbrev bodyEnd (c : Dev nD) : sProp 𝕄 :=
  iprop(Φ1 c ∗ (dat0 m c).owesAt () t0_0.succ ∗ stg c cc0_stg0_0 (xA m c) ∗ stg c cc0_stg1_0 (qA m c) ∗ stg c cc0_stg2_0 (kA' m c)
    ∗ stg c cc0_stg3_0 (vA m c) ∗ stg c cc0_stg4_0 (wA m c) ∗ stg c cc0_stg5_0 (gath (PP m)))

theorem to_end (c : Dev nD) :
    iprop(semVal (barC c) 0 ∗ (bigSep Finset.univ fun k : Fin 24 => semVal ((c : Thread nD τ), osem k) 0)
        ∗ ow c 0 ∗ opsPt c (xA m c) (qA m c) (kA' m c) (vA m c) (wA m c) ∗ pAll c (PP m c) ∗ (∃ h, rAll c h) ∗ oAll c (gath (PP m)) ∗ ∃ r, prngReg c r)
      ⊢ bodyEnd m c := by
  iintro ⟨Hb, Hs, HO, ⟨H0, H1, H2, H3, H4⟩, Hp, Hr, H5, Hreg⟩
  isplitl [Hb Hs Hp Hr Hreg]
  · unfold Φ1
    isplitl [Hb]; · iexact Hb
    isplitl [Hs]; · iexact Hs
    isplitl [Hp]; · iexists (PP m c); iexact Hp
    isplitl [Hr] <;> iassumption
  isplitl [HO]; · iapply (owes_in m c); iexact HO
  isplitl [H0]; · iapply (stg_intro c cc0_stg0_0 (xA m c)); iexact H0
  isplitl [H1]; · iapply (stg_intro c cc0_stg1_0 (qA m c)); iexact H1
  isplitl [H2]; · iapply (stg_intro c cc0_stg2_0 (kA' m c)); iexact H2
  isplitl [H3]; · iapply (stg_intro c cc0_stg3_0 (vA m c)); iexact H3
  isplitl [H4]; · iapply (stg_intro c cc0_stg4_0 (wA m c)); iexact H4
  iapply (stg_intro c cc0_stg5_0 (gath (PP m))); iexact H5

/-- The body from the region's state before it to the one after. -/
theorem body_whole (c : Dev nD) (K : GSem nD τ sig → ℕ) (f fo : S2x256x512.Idx → Elt F .f32) (g : S8x2x32x512.Idx → Elt F .f32) :
    iprop(ctx (PP m) K c ∗ atPos ER (barC c) 0 ∅ 0 ∗ (bigSep Finset.univ fun k : Fin 24 => atPos ER ((c : Thread nD τ), osem k) 0 ∅ 0) ∗ payToks c ∗ creds0 c
        ∗ ow c (O₀ c) ∗ opsPt c (xA m c) (qA m c) (kA' m c) (vA m c) (wA m c) ∗ pAll c f ∗ rAll c g ∗ oAll c fo ∗ ∃ r, prngReg c r)
      ⊢ wpc c (bodyAt0 (F := F) t0_0) fun _ => bodyEnd m c :=
  (enter (PP m) K c (xA m c) (qA m c) (kA' m c) (vA m c) (wA m c) f fo g iprop(∃ r, prngReg c r)).trans
    ((body_run (PP m) K c (xA m c) (qA m c) (kA' m c) (vA m c) (wA m c) (Kt := fun _ => iprop(|={Set.univ}=> bodyEnd m c)) rfl
      ((leave (PP m) K c (xA m c) (qA m c) (kA' m c) (vA m c) (wA m c) g iprop(∃ r, prngReg c r)).trans (BI.fupd_mono (to_end m c)))).trans (wp_fupd _ _ _ _ _))

/-- The body as the region runs it. -/
theorem body_ok (c : Dev nD) : BodyObligation (dat0 (F := F) m c) defs₀ 𝒱₀ () Set.univ := fun t => by
  obtain rfl := fin_N0 t
  rw [bigSep_W0, bigSep_W0]
  simp only [owns_eq]
  rw [Φ_first, Φ_next]
  unfold Φ0
  show _ ⊢ wpc c (bodyAt0 (F := F) t0_0) fun _ => bodyEnd m c
  iintro ⟨⟨⟨⟨%K, HC, Hb, Hat, Ht⟩, Hcr⟩, ⟨%f, Hp⟩, ⟨%g, Hr⟩, Hreg⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  obtain rfl := h0.trans (before0 m c d0); obtain rfl := h1.trans (before1 m c d1); obtain rfl := h2.trans (before2 m c d2)
  obtain rfl := h3.trans (before3 m c d3); obtain rfl := h4.trans (before4 m c d4)
  ihave HO := (owes_out m c) $$ HO
  iapply (body_whole m c K f f5 g)
  isplitl [HC]; · iexact HC
  isplitl [Hb]; · iexact Hb
  isplitl [Hat]; · iexact Hat
  isplitl [Ht]; · iexact Ht
  isplitl [Hcr]; · iexact Hcr
  isplitl [HO]; · iexact HO
  isplitl [H0 H1 H2 H3 H4]
  · isplitl [H0]; · iexact H0
    isplitl [H1]; · iexact H1
    isplitl [H2]; · iexact H2
    isplitl [H3]; · iexact H3
    iexact H4
  isplitl [Hp]; · iexact Hp
  isplitl [Hr]; · iexact Hr
  isplitl [H5]; · iexact H5
  iexact Hreg

end Cert.KernelIdeal.Hand

end
-- ==== Proof.KernelIdeal.Run.lean ====
/- Every run of `KernelIdeal`: what the launch deals to the devices, the region among the segments of the program, what the memory holds at the end. -/
module

public import proofs.«01_k».proof.Proof.KernelIdeal.Region
public import Idealize.ShloMosaic.Lib.Pipeline.Value

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)
open Cert.KernelIdeal Cert.KernelIdeal.Gen

variable {F : FTy → Type} [FloatOps F] [Facts]

local notation "𝕄" => MT nD τ sig Unit (Elt F) ℕ UU ℕ

variable (m : (ℓ : Loc nD τ sig) → Buf (Elt F) ℓ) (ρ : Dev nD → PrngReg)

/-! ## The region's record -/

def pdats : (p : Fin 1) → (c : Dev nD) → Dat τ (Elt F) Unit ℕ UU ℕ (cfgs p) c
  | 0 => dat0 m

/-- The buffers after the region: the result gathered, every other one as the host operations left it. -/
abbrev VZ (c : Dev nD) : Valuation τ sig (Elt F) := Function.update (V1 m c) (Proc.devRef .tc main_v17) (gath (PP m))

theorem VZ_of (c : Dev nD) (r : Ref sig .tc) (h : r ≠ main_v17) : VZ m c (Proc.devRef .tc r) = V1 m c (Proc.devRef .tc r) :=
  Function.update_of_ne (StableHlo.devRef_ne_of_ne h) _ _
theorem VZ_v17 (c : Dev nD) : VZ m c (Proc.devRef .tc main_v17) = gath (PP m) := Function.update_self ..

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_ok : Pipeline.OwnSemFacts spec0 osem := by decide

theorem share_ok (c : Dev nD) (w : Fin cfg0.W) : (dat0 m c).share w = fullShare := by unfold Dat.share; split <;> rfl

theorem O₀_pos {c : Dev nD} {g : GSem nD τ sig} {u : Unit} (h : 0 < O₀ c g u) : g.1.2 = .tc ∧ 0 < lv g () := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨s, rfl⟩ := OB_pos h; exact ⟨rfl, by rw [lv_bar]; decide⟩
    · obtain ⟨s, rfl⟩ := OA_pos h; exact ⟨rfl, by rw [lv_a]; decide⟩
  · obtain ⟨s, rfl⟩ := OC_pos h; exact ⟨rfl, by rw [lv_b]; decide⟩

theorem cut_ok (c : Dev nD) (t : Fin (cfg0.N + 1)) (g : GSem nD τ sig) (i : Unit) (h : 0 < (dat0 (F := F) m c).owed t g i) : i ∈ L g ∧ (0 : ℕ) < lv g i := by
  have e : (dat0 (F := F) m c).owed t = if t.val = 0 then O₀ c else 0 := rfl
  rw [e] at h
  split at h
  · obtain ⟨h1, h2⟩ := O₀_pos h
    exact ⟨by unfold L; rw [if_pos h1]; exact Finset.mem_singleton_self _, h2⟩
  · exact absurd h (Nat.lt_irrefl 0)

theorem stage_low : ∀ (w : Fin 6) (s : Fin (spec0 w).nbuf), ((spec0 w).sem s).val < 14 := by decide

theorem arr_in (c : Dev nD) (w : Fin cfg0.W) (h : (cfg0.win w).isOut = false) (hv : Pipeline.arrRef spec0 w ≠ main_v17) :
    (dat0 m c).arrAt w cfg0.N = VZ m c (Proc.devRef .tc (Pipeline.arrRef spec0 w)) :=
  ((dat0 m c).arrAt_in w h _).trans (VZ_of m c _ hv).symm
theorem arr_out (c : Dev nD) : (dat0 m c).arrAt 5 cfg0.N = gath (PP m) :=
  (dat0 m c).arrAt_eq_of_cover 5 (gath (PP m)) (fun t _ => by obtain rfl := fin_N0 t; exact (whole5 (gath (PP m))).symm)
    (fun i => ⟨t0_0, flush0_5 _, by
      have h : ∀ j : S2x256x512.Idx, j ∈ ((View.whole main_v17).slice (win0_5.rect t0_0)).set := fun j => by
        rw [View.set_slice_whole, Rect.mem_set_unit]
        exact fun a => ⟨by show 0 * _ ≤ _; omega, by show (j a).val < 0 * _ + S2x256x512.size a; have := (j a).isLt; omega⟩
      exact h i⟩)

theorem Φ_zero (c : Dev nD) : (dat0 (F := F) m c).Φ 0 = Φ0 m c := by
  show (if (0 : Fin (cfg0.N + 1)).val = 0 then Φ0 m c else Φ1 c) = Φ0 m c; exact if_pos rfl
theorem Φ_last (c : Dev nD) : (dat0 (F := F) m c).Φ (Fin.last cfg0.N) = Φ1 c := by
  show (if (Fin.last cfg0.N).val = 0 then Φ0 m c else Φ1 c) = Φ1 c
  rw [Fin.val_last, if_neg (by rw [show cfg0.N = 1 from N_0]; decide)]
theorem owed_zero (c : Dev nD) : (dat0 (F := F) m c).owed 0 = O₀ c := by
  show (if (0 : Fin (cfg0.N + 1)).val = 0 then O₀ c else 0) = O₀ c; exact if_pos rfl
theorem owed_last (c : Dev nD) : (dat0 (F := F) m c).owed (Fin.last cfg0.N) = 0 := by
  show (if (Fin.last cfg0.N).val = 0 then O₀ c else 0) = 0
  rw [Fin.val_last, if_neg (by rw [show cfg0.N = 1 from N_0]; decide)]

/-- The buffers the region's windows do not stage. -/
abbrev others : Finset (DevRef τ sig) := Pipeline.ucRefs τ sig \ Pipeline.arrRefs (τ := τ) spec0
theorem arr_sub : Pipeline.arrRefs (τ := τ) spec0 ⊆ Pipeline.ucRefs τ sig := by decide
theorem arr_ne : ∀ w : Fin 6, w ≠ 5 → Pipeline.arrRef spec0 w ≠ main_v17 := by decide
theorem out_arr : (Proc.devRef .tc main_v17 : DevRef τ sig) ∈ Pipeline.arrRefs (τ := τ) spec0 := by decide

theorem rest_ok (c : Dev nD) : ∀ b ∈ others \ ∅, VZ m c b = V1 m c b := fun b hb => by
  refine Function.update_of_ne (fun h => ?_) _ _
  rw [Finset.sdiff_empty] at hb
  exact (Finset.mem_sdiff.mp hb).2 (by rw [h]; exact out_arr)

theorem region_in (c : Dev nD) : iprop(Pipeline.scopedRest spec0 c ∗ (∃ r, prngReg c r) ∗ StableHlo.held (c.tc : Thread nD τ) ∅ (V1 m c) ∗ Xk (PP m) c)
    ⊢ (dat0 m c).Φ 0 := by
  rw [Φ_zero, scopedRest0_eq]
  unfold Φ0
  iintro ⟨⟨Hp, Hr⟩, Hg, -, HX⟩
  isplitl [HX]; · iexact HX
  isplitl [Hp]; · iexact Hp
  isplitl [Hr]; · iexact Hr
  iexact Hg

theorem region_out (c : Dev nD) : (dat0 m c).Φ (Fin.last cfg0.N)
    ⊢ iprop(Pipeline.scopedRest spec0 c ∗ (∃ r, prngReg c r) ∗ StableHlo.held (c.tc : Thread nD τ) ∅ (VZ m c) ∗ Pipeline.ownSems0 osem c ∗ Yk c) := by
  rw [Φ_last, scopedRest0_eq, ownSems_eq]
  unfold Φ1 StableHlo.held
  rw [BI.bigSep_empty]
  iintro ⟨Hb, Hs, Hp, Hr, Hg⟩
  isplitl [Hp Hr]; · isplitl [Hp]; · iexact Hp
                     iexact Hr
  isplitl [Hg]; · iexact Hg
  isplitr; · iempintro
  isplitl [Hs]; · iexact Hs
  iexact Hb

set_option backward.isDefEq.respectTransparency.types false in
/-- The region, its kernel talking across the devices. -/
def R0 : Pipeline.RegionSeg (pcfgs (F := F)) adm (pdats m) () defs₀ 𝒱₀ L lv 0 :=
  Pipeline.RegionSeg.ofTalk (pcfgs (F := F)) adm (pdats m) () defs₀ 𝒱₀ L lv 0 osem own_ok
    ∅ others (Finset.empty_subset _) kit0 rfl (fun c => (body_ok m c).loose)
    (fun _ => 0) O₀ (fun c => (owed_zero m c).trans (zero_add _).symm)
    (owed_last m) (fun _ => rfl) (fun c w => share_ok m c w)
    (V1 m) (VZ m) (rest_ok m)
    (Tk (PP m)) Yk (Xk (PP m)) Yk (open_all (PP m)) (region_in m) (region_out m)
    (fun c => by iintro H; imodintro; iexact H)
    (fun _ => 0)
    ⟨fun c w s => by rw [L_tc]; exact Finset.mem_singleton_self _, fun c w s => le_of_eq (lv_low c _ (stage_low w s)), fun c t g i h => cut_ok m c t g i h⟩
    (fun _ => iprop(emp))
    (fun c w => rfl)
    (fun c w => match w with
      | ⟨0, _⟩ => arr_in m c 0 rfl (arr_ne 0 (by decide)) | ⟨1, _⟩ => arr_in m c 1 rfl (arr_ne 1 (by decide)) | ⟨2, _⟩ => arr_in m c 2 rfl (arr_ne 2 (by decide))
      | ⟨3, _⟩ => arr_in m c 3 rfl (arr_ne 3 (by decide)) | ⟨4, _⟩ => arr_in m c 4 rfl (arr_ne 4 (by decide)) | ⟨5, _⟩ => (arr_out m c).trans (VZ_v17 m c).symm)

/-- What each device carries besides its buffers up to the region. -/
abbrev E0' (c : Dev nD) : sProp 𝕄 := iprop((∃ r, prngReg c r) ∗ Tk (PP m) c ∗ ow c (O₀ c))

theorem R0_pre (c : Dev nD) : iprop(StableHlo.held (c : Thread nD τ) (Pipeline.ucRefs τ sig) (V1 m c) ∗ E0' m c) ⊢ (R0 m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk (PP m) c ∗ ∃ Wd, owes (c : Thread nD τ) (0 + O₀ c) Wd)
  rw [zero_add, StableHlo.held_sub_split (c : Thread nD τ) arr_sub (V1 m c)]
  iintro ⟨⟨Ha, Ho⟩, Hg, Ht, HO⟩
  isplitl [Ha]; · iexact Ha
  isplitl [Hg]; · iexact Hg
  isplitl [Ho]
  · isplitl [Ho]; · iexact Ho
    iempintro
  isplitl [Ht]; · iexact Ht
  iexact HO

theorem R0_post (c : Dev nD) : (R0 m).post c
    ⊢ iprop((StableHlo.held (c : Thread nD τ) (Pipeline.ucRefs τ sig) (VZ m c) ∗ semVal (barC c) 0) ∗ ∃ W, owes (c : Thread nD τ) (0 : CellTallies nD τ sig Unit) W) := by
  show iprop(StableHlo.held (c.tc : Thread nD τ) (Pipeline.arrRefs (τ := τ) spec0) (VZ m c) ∗ (∃ r, prngReg c r)
    ∗ (StableHlo.held (c.tc : Thread nD τ) others (VZ m c) ∗ emp) ∗ Yk c ∗ ∃ Wd, owes (c : Thread nD τ) (0 : CellTallies nD τ sig Unit) Wd) ⊢ _
  rw [StableHlo.held_sub_split (c : Thread nD τ) arr_sub (VZ m c)]
  iintro ⟨Ha, -, ⟨Ho, -⟩, Hb, HO⟩
  isplitr [HO]
  · isplitl [Ha Ho]; · isplitl [Ha] <;> iassumption
    iexact Hb
  iexact HO

end Cert.KernelIdeal.Hand

end
-- ==== Proof.KernelIdeal.Deal.lean ====
/- What the launch of `KernelIdeal` deals to the devices: the tokens of what each pays, and credit for what it will be paid. -/
module

public import proofs.«01_k».proof.Proof.KernelIdeal.Region

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)
open Cert.KernelIdeal Cert.KernelIdeal.Gen

variable {F : FTy → Type} [FloatOps F] [Facts]

local notation "𝕄" => MT nD τ sig Unit (Elt F) ℕ UU ℕ

/-! ## The tokens -/

/-- The five payments a device makes at each offset: the semaphore, the round, and who of the payers it is. -/
def tokKey (x : Fin 5 × Fin 8) : SemLoc sig × ℕ × Fin 8 :=
  match x.1 with
  | ⟨0, _⟩ => (.reg barS, 0, -x.2)
  | ⟨1, _⟩ => (.dma (sS x.2), 0, 0)
  | ⟨2, _⟩ => (.dma (aS x.2), 0, 0)
  | ⟨3, _⟩ => (.dma (sS x.2), 1, 0)
  | ⟨_, _⟩ => (.dma (bS x.2), 0, 0)
theorem tokKey_inj : Function.Injective tokKey := by decide

/-- Whose semaphore the payment goes to. -/
def tokDev (x : Fin 5 × Fin 8) (c : Fin 8) : Fin 8 :=
  match x.1 with
  | ⟨0, _⟩ | ⟨2, _⟩ | ⟨4, _⟩ => c + x.2
  | ⟨_, _⟩ => c
theorem tokDev_inj : ∀ (x : Fin 5 × Fin 8) (c d : Fin 8), tokDev x c = tokDev x d → c = d := by decide

def tokEmb : Dev nD × Fin 5 × Fin 8 ↪ GSem nD τ sig × ℕ × Fin 8 :=
  ⟨fun cx => ((((tokDev cx.2 cx.1 : Dev nD) : Thread nD τ), (tokKey cx.2).1), (tokKey cx.2).2), fun x y h => by
    have h1 : tokKey x.2 = tokKey y.2 := Prod.ext (congrArg (fun z : GSem nD τ sig × ℕ × Fin 8 => z.1.2) h) (congrArg (fun z : GSem nD τ sig × ℕ × Fin 8 => z.2) h)
    have h2 : x.2 = y.2 := tokKey_inj h1
    have h3 : tokDev x.2 x.1 = tokDev y.2 y.1 := congrArg (fun z : GSem nD τ sig × ℕ × Fin 8 => z.1.1.1) h
    rw [h2] at h3
    exact Prod.ext (tokDev_inj _ _ _ h3) h2⟩
abbrev toks : Finset (GSem nD τ sig × ℕ × Fin 8) := Finset.univ.map tokEmb

theorem drop_zero (A B C D E : Fin 8 → sProp (MT nD τ sig Unit (Elt F) ℕ UU ℕ)) :
    iprop(bigSep Finset.univ A ∗ bigSep Finset.univ B ∗ bigSep Finset.univ C ∗ bigSep Finset.univ D ∗ bigSep Finset.univ E)
      ⊢ iprop(bigSep E0 A ∗ (bigSep E0 fun o => iprop(B o ∗ C o)) ∗ bigSep E0 fun o => iprop(D o ∗ E o)) := by
  rw [at_zero A, at_zero B, at_zero C, at_zero D, at_zero E, bigSep_sep', bigSep_sep']
  iintro ⟨⟨-, H0⟩, ⟨-, H1⟩, ⟨-, H2⟩, ⟨-, H3⟩, ⟨-, H4⟩⟩
  isplitl [H0]; · iexact H0
  isplitl [H1 H2]; · isplitl [H1] <;> iassumption
  isplitl [H3] <;> iassumption

/-- Dealt by payer. -/
theorem toks_deal : bigSep toks (fun x => (dutyTok ER x.1 x.2.1 x.2.2 : sProp 𝕄)) ⊢ bigSep Finset.univ fun c : Dev nD => payToks c := by
  unfold toks; rw [bigSep_map, bigSep_univ_prod]
  refine bigSep_mono fun c _ => ?_
  rw [bigSep_univ_prod, bigSep_univ_eq_bigSepL [(0 : Fin 5), (1 : Fin 5), (2 : Fin 5), (3 : Fin 5), (4 : Fin 5)] (by decide) (by decide)]
  exact drop_zero (fun s => dutyTok ER (barC (c + s : Fin 8)) 0 (-s)) (fun o => dutyTok ER (sC c o) 0 0) (fun o => dutyTok ER (aC (c + o : Fin 8) o) 0 0)
    (fun o => dutyTok ER (sC c o) 1 0) (fun o => dutyTok ER (bC (c + o : Fin 8) o) 0 0)

/-! ## The credit -/

theorem cell_iff (c d : Dev nD) (s t : SemLoc sig) : (((c : Thread nD τ), s) : GSem nD τ sig) = ((d : Thread nD τ), t) ↔ c = d ∧ s = t :=
  ⟨fun h => ⟨congrArg (fun g : GSem nD τ sig => g.1.1) h, congrArg Prod.snd h⟩, fun h => by rw [h.1, h.2]⟩
theorem a_ne_bar : ∀ o : Fin 8, (SemLoc.dma (aS o) : SemLoc sig) ≠ .reg barS := by decide
theorem b_ne_bar : ∀ o : Fin 8, (SemLoc.dma (bS o) : SemLoc sig) ≠ .reg barS := by decide
theorem a_ne_b : ∀ o p : Fin 8, (SemLoc.dma (aS o) : SemLoc sig) ≠ .dma (bS p) := by decide
theorem a_iff : ∀ o p : Fin 8, ((SemLoc.dma (aS o) : SemLoc sig) = .dma (aS p)) = (o = p) := by decide
theorem b_iff : ∀ o p : Fin 8, ((SemLoc.dma (bS o) : SemLoc sig) = .dma (bS p)) = (o = p) := by decide

theorem O₀_apply (d : Dev nD) (g : GSem nD τ sig) : O₀ d g () =
    (∑ s ∈ E0, if g = barC (d + s : Fin 8) then 1 else 0) + (∑ s ∈ E0, if g = aC (d + s : Fin 8) s then N else 0) + ∑ s ∈ E0, if g = bC (d + s : Fin 8) s then N else 0 := by
  unfold O₀ OB OA OC
  simp only [Pi.add_apply, Finsupp.add_apply, Finset.sum_apply, Finsupp.finset_sum_apply, tallyAt_apply, and_true]

theorem owed_bar (d c : Dev nD) : O₀ d (barC c) () = ∑ s ∈ E0, if c = (d + s : Fin 8) then 1 else 0 := by
  rw [O₀_apply]
  simp only [cell_iff, (a_ne_bar _).symm, (b_ne_bar _).symm, and_true, and_false, if_false, Finset.sum_const_zero, add_zero]
theorem owed_a (d c : Dev nD) (o : Fin 8) : O₀ d (aC c o) () = ∑ s ∈ E0, if c = (d + s : Fin 8) ∧ o = s then N else 0 := by
  rw [O₀_apply]
  simp only [cell_iff, a_ne_bar, a_ne_b, a_iff, and_false, if_false, Finset.sum_const_zero, add_zero, zero_add]
theorem owed_b (d c : Dev nD) (o : Fin 8) : O₀ d (bC c o) () = ∑ s ∈ E0, if c = (d + s : Fin 8) ∧ o = s then N else 0 := by
  rw [O₀_apply]
  simp only [cell_iff, b_ne_bar, (a_ne_b _ _).symm, b_iff, and_false, if_false, Finset.sum_const_zero, zero_add]

theorem seven : ∀ c : Fin 8, ∑ d : Fin 8, ∑ s ∈ E0, (if c = d + s then 1 else 0) = 7 := by decide
theorem once : ∀ c o : Fin 8, o ∈ E0 → ∑ d : Fin 8, ∑ s ∈ E0, (if c = d + s ∧ o = s then 1 else 0) = 1 := by decide
theorem once_n (n : ℕ) (c o : Fin 8) (h : o ∈ E0) : ∑ d : Fin 8, ∑ s ∈ E0, (if c = d + s ∧ o = s then n else 0) = n := by
  have e : ∑ d : Fin 8, ∑ s ∈ E0, (if c = d + s ∧ o = s then n else 0) = n * ∑ d : Fin 8, ∑ s ∈ E0, (if c = d + s ∧ o = s then 1 else 0) := by
    simp only [Finset.mul_sum, mul_ite, mul_one, mul_zero]
  rw [e, once c o h, mul_one]

theorem launch_bar (c : Dev nD) :
    tallyOn (barC c) (launchCredit (Pipeline.owing O₀) 0 (barC c)) = (tallyAt (barC c) () 7 : CellTallies nD τ sig Unit) := by
  unfold tallyAt; refine congrArg _ (Finsupp.ext fun u => ?_); cases u
  rw [Pipeline.launchCredit_owing, Finsupp.single_eq_same, Finset.sum_congr rfl fun d _ => owed_bar d c]
  exact seven c
theorem launch_a (c : Dev nD) (o : Fin 8) (h : o ∈ E0) :
    tallyOn (aC c o) (launchCredit (Pipeline.owing O₀) 0 (aC c o)) = (tallyAt (aC c o) () N : CellTallies nD τ sig Unit) := by
  unfold tallyAt; refine congrArg _ (Finsupp.ext fun u => ?_); cases u
  rw [Pipeline.launchCredit_owing, Finsupp.single_eq_same, Finset.sum_congr rfl fun d _ => owed_a d c o]
  exact once_n N c o h
theorem launch_b (c : Dev nD) (o : Fin 8) (h : o ∈ E0) :
    tallyOn (bC c o) (launchCredit (Pipeline.owing O₀) 0 (bC c o)) = (tallyAt (bC c o) () N : CellTallies nD τ sig Unit) := by
  unfold tallyAt; refine congrArg _ (Finsupp.ext fun u => ?_); cases u
  rw [Pipeline.launchCredit_owing, Finsupp.single_eq_same, Finset.sum_congr rfl fun d _ => owed_b d c o]
  exact once_n N c o h

theorem creds_deal (c : Dev nD) : (Pipeline.launchCred O₀ c : sProp 𝕄) ⊢ creds0 c := by
  unfold Pipeline.launchCred
  rw [bigSep_univ_at _ (SemLoc.reg barS), launch_bar]
  refine sep_mono_right ?_
  refine (BI.bigSep_subset (t := Finset.univ.map ⟨osem, osem_inj⟩) fun x hx => ?_).trans ?_
  · obtain ⟨k, -, rfl⟩ := Finset.mem_map.mp hx
    exact Finset.mem_erase.mpr ⟨osem_ne k, Finset.mem_univ _⟩
  rw [bigSep_map, sems_cut]
  show iprop(_ ∗ (bigSep Finset.univ fun o : Fin 8 => cred (tallyOn ((c : Thread nD τ), osem (kA o)) (launchCredit (Pipeline.owing O₀) 0 ((c : Thread nD τ), osem (kA o)))))
    ∗ bigSep Finset.univ fun o : Fin 8 => cred (tallyOn ((c : Thread nD τ), osem (kB o)) (launchCredit (Pipeline.owing O₀) 0 ((c : Thread nD τ), osem (kB o))))) ⊢ _
  simp only [osem_kA, osem_kB]
  rw [at_zero fun o : Fin 8 => cred (tallyOn (aC c o) (launchCredit (Pipeline.owing O₀) 0 (aC c o))),
    at_zero fun o : Fin 8 => cred (tallyOn (bC c o) (launchCredit (Pipeline.owing O₀) 0 (bC c o))),
    bigSep_congr (s := E0) (Φ := fun o : Fin 8 => cred (tallyOn (aC c o) (launchCredit (Pipeline.owing O₀) 0 (aC c o)))) (fun o h => by rw [launch_a c o h]),
    bigSep_congr (s := E0) (Φ := fun o : Fin 8 => cred (tallyOn (bC c o) (launchCredit (Pipeline.owing O₀) 0 (bC c o)))) (fun o h => by rw [launch_b c o h])]
  iintro ⟨-, ⟨-, Ha⟩, -, Hb⟩
  isplitl [Ha] <;> iassumption

/-! ## The ghost state -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne ck.2 (congrArg Prod.snd h)

theorem unscopedSems0_bar (c : Dev nD) : (unscopedSems0 c : sProp 𝕄) = semVal (barC c) 0 := by
  unfold unscopedSems0; rw [show (Finset.univ.filter fun sm : SemLoc sig => ¬ sm.isScoped .tc) = {SemLoc.reg barS} from by decide, BI.bigSep_singleton]

/-- All of the protocol's state, at the launch with device 0. -/
def G (c : Dev nD) : sProp 𝕄 := if c = 0 then BI.own (ER (launchOf barCells scCells toks)) else iprop(emp)
theorem G_all : bigSep Finset.univ (G (F := F)) = BI.own (ER (launchOf barCells scCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp
def u₀ : UU := (initOf (Pipeline.cells cfgs cellOf_inj) (Pipeline.launchToks cfgs cellOf_inj), launchOf barCells scCells toks)

variable (P : Dev nD → S2x256x512.Idx → Elt F .f32)

/-- The counters of the barriers and the protocol's state, made into what every device may consult and what each keeps. -/
theorem fund :
    iprop((bigSep Finset.univ fun c : Dev nD => semVal (barC c) 0) ∗ bigSep Finset.univ (G (F := F)))
      ⊢ (|={Set.univ}=> bigSep Finset.univ fun c : Dev nD => iprop(∃ K, records P K ∗ linear c) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Fin 24 => (openTok ER ((c : Thread nD τ), osem k) : sProp 𝕄)) :=
    Entails.of_eq (by rw [bigSep_map, bigSep_univ_prod]; rfl)
  have hK (K : GSem nD τ sig → ℕ) (c : Dev nD) : iprop(records P K ∗ linear c) ⊢ (iprop(∃ K, records P K ∗ linear c) : sProp 𝕄) := by
    iintro H; iexists K; iexact H
  have hl : iprop((bigSep Finset.univ fun c : Dev nD => atPos ER (barC c) 0 ∅ 0)
      ∗ (bigSep Finset.univ fun c : Dev nD => bigSep Finset.univ fun k : Fin 24 => openTok ER ((c : Thread nD τ), osem k))
      ∗ bigSep Finset.univ fun c : Dev nD => payToks c) ⊢ (bigSep Finset.univ fun c : Dev nD => linear c : sProp 𝕄) := by
    rw [← bigSep_sep', ← bigSep_sep']
  rw [G_all]
  iintro ⟨Hv, Hu⟩
  imod (Rounds.fund_launch ER (Rd P) disjoint_cells (fun g _ h => h) toks) $$ [Hv Hu] with ⟨%κ, -, #Hinv, #Hr, Hat, Hopen, Htok⟩
  · isplitl [Hv]
    · iapply hv $$ Hv
    · iexact Hu
  imodintro
  iapply (with_records Finset.univ (Φ := fun c => linear c) fun c _ => hK κ c)
  isplitr
  · unfold records
    isplitr; · iexact Hinv
    iexact Hr
  iapply hl
  isplitl [Hat]; · iapply hat $$ Hat
  isplitl [Hopen]; · iapply hopen $$ Hopen
  iapply (toks_deal (F := F)) $$ Htok

end Cert.KernelIdeal.Hand

end
-- ==== Proof.KernelIdeal.Main.lean ====
/- THE RUN of `KernelIdeal`: what the launch gives each device, and what every final state holds. -/
module

public import proofs.«01_k».proof.Proof.KernelIdeal.Run
public import proofs.«01_k».proof.Proof.KernelIdeal.Deal

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)
open Cert.KernelIdeal Cert.KernelIdeal.Gen

variable {F : FTy → Type} [FloatOps F] [Facts]

local notation "𝕄" => MT nD τ sig Unit (Elt F) ℕ UU ℕ

variable (m : (ℓ : Loc nD τ sig) → Buf (Elt F) ℓ) (ρ : Dev nD → PrngReg)

/-- What each device carries besides its buffers: before the region, and after it. -/
def EE (t : Fin 2) (c : Dev nD) : sProp 𝕄 := if t = 0 then E0' m c else iprop(emp)

abbrev T₀ (c : Dev nD) : sProp 𝕄 := iprop(StableHlo.held (c : Thread nD τ) (Pipeline.ucRefs τ sig) (V0 m c) ∗ E0' m c)
abbrev Tₙ (c : Dev nD) : sProp 𝕄 := iprop(StableHlo.held (c : Thread nD τ) (Pipeline.ucRefs τ sig) (VZ m c) ∗ semVal (barC c) 0)

/-- What of a device's launch holdings is not the protocol's state. -/
abbrev bundle (c : Dev nD) : sProp 𝕄 :=
  iprop(StableHlo.held (c : Thread nD τ) (Pipeline.ucRefs τ sig) (V0 m c) ∗ creds0 c ∗ owes (c : Thread nD τ) (O₀ c) ∅ ∗ prngReg c (ρ c))

theorem T₀_intro (c : Dev nD) : iprop((∃ K, records (PP m) K ∗ linear c) ∗ bundle m ρ c) ⊢ T₀ m c := by
  iintro ⟨Hl, Hh, Hc, HO, Hp⟩
  isplitl [Hh]; · iexact Hh
  isplitl [Hp]; · iexists (ρ c); iexact Hp
  isplitr [HO]
  · isplitl [Hl] <;> iassumption
  · iexists ∅; iexact HO

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m ρ c ∗ semVal (barC c) 0 ∗ G c) : sProp 𝕄) := by
    rw [show unscopedBufs c (fun b => m ((c.tc : Thread nD τ).loc b)) = StableHlo.held (c : Thread nD τ) (Pipeline.ucRefs τ sig) (V0 m c) from
        Pipeline.unscopedBufs_held (Ix := Unit) (Name := ℕ) (U := UU) (Lvl := ℕ) c (V0 m c), unscopedSems0_bar]
    iintro ⟨Hh, Hus, HO, Hcr, Hp, HG⟩
    ihave Hc := (creds_deal (F := F) c) $$ Hcr
    isplitl [Hh Hc HO Hp]
    · isplitl [Hh]; · iexact Hh
      isplitl [Hc]; · iexact Hc
      isplitl [HO]; · iexact HO
      iexact Hp
    isplitl [Hus] <;> iassumption
  have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (iprop((bigSep Finset.univ fun c : Dev nD => bundle m ρ c) ∗ (bigSep Finset.univ fun c : Dev nD => semVal (barC c) 0) ∗ bigSep Finset.univ (G (F := F))) : sProp 𝕄) := by
    rw [← bigSep_sep', ← bigSep_sep']
    exact bigSep_mono fun c _ => hcore c
  have hjoin : iprop((bigSep Finset.univ fun c : Dev nD => iprop(∃ K, records (PP m) K ∗ linear c)) ∗ bigSep Finset.univ fun c : Dev nD => bundle m ρ c)
      ⊢ (bigSep Finset.univ (T₀ m) : sProp 𝕄) := by
    rw [← bigSep_sep']
    exact bigSep_mono fun c _ => T₀_intro m ρ c
  iintro ⟨H, -⟩
  ihave H' := hsplit $$ H
  icases H' with ⟨HB, Hv, HG⟩
  imod (fund (PP m)) $$ [Hv HG] with HL
  · isplitl [Hv] <;> iassumption
  imodintro
  iapply hjoin
  isplitl [HL] <;> iassumption

theorem unscoped_eq : ∀ sm : SemLoc sig, sm.isScoped .tc = false → sm = .reg barS := by decide

theorem VZ_arg0 (c : Dev nD) : VZ m c (Proc.devRef .tc main_arg0) = m ((c.tc : Thread nD τ).loc main_arg0) := (VZ_of m c main_arg0 (by decide)).trans (V1_of m c main_arg0 (by decide))
theorem VZ_arg1 (c : Dev nD) : VZ m c (Proc.devRef .tc main_arg1) = m ((c.tc : Thread nD τ).loc main_arg1) := (VZ_of m c main_arg1 (by decide)).trans (V1_of m c main_arg1 (by decide))
theorem VZ_arg2 (c : Dev nD) : VZ m c (Proc.devRef .tc main_arg2) = m ((c.tc : Thread nD τ).loc main_arg2) := (VZ_of m c main_arg2 (by decide)).trans (V1_of m c main_arg2 (by decide))
theorem VZ_arg3 (c : Dev nD) : VZ m c (Proc.devRef .tc main_arg3) = m ((c.tc : Thread nD τ).loc main_arg3) := (VZ_of m c main_arg3 (by decide)).trans (V1_of m c main_arg3 (by decide))
theorem VZ_arg4 (c : Dev nD) : VZ m c (Proc.devRef .tc main_arg4) = m ((c.tc : Thread nD τ).loc main_arg4) := (VZ_of m c main_arg4 (by decide)).trans (V1_of m c main_arg4 (by decide))

/-- What a device's memory holds at the end: its arguments as they were, its result the gathered sums. -/
abbrev Ends (c : Dev nD) (b : (ℓ : Loc nD τ sig) → Buf (Elt F) ℓ) : Prop :=
  b ((c.tc : Thread nD τ).loc main_v17) = gath (PP m)
  ∧ b ((c.tc : Thread nD τ).loc main_arg0) = m ((c.tc : Thread nD τ).loc main_arg0)
  ∧ b ((c.tc : Thread nD τ).loc main_arg1) = m ((c.tc : Thread nD τ).loc main_arg1)
  ∧ b ((c.tc : Thread nD τ).loc main_arg2) = m ((c.tc : Thread nD τ).loc main_arg2)
  ∧ b ((c.tc : Thread nD τ).loc main_arg3) = m ((c.tc : Thread nD τ).loc main_arg3)
  ∧ b ((c.tc : Thread nD τ).loc main_arg4) = m ((c.tc : Thread nD τ).loc main_arg4)

theorem ends_of (c : Dev nD) (b : (ℓ : Loc nD τ sig) → Buf (Elt F) ℓ)
    (h : ∀ r ∈ Pipeline.ucRefs τ sig, b ((c : Thread nD τ).1, r) = VZ m c r) : Ends m c b :=
  ⟨(h (Proc.devRef .tc main_v17) (Finset.mem_filter.mpr ⟨StableHlo.devRef_mem_tcRefs main_v17, by decide⟩)).trans (VZ_v17 m c),
   (h (Proc.devRef .tc main_arg0) (Finset.mem_filter.mpr ⟨StableHlo.devRef_mem_tcRefs main_arg0, by decide⟩)).trans (VZ_arg0 m c),
   (h (Proc.devRef .tc main_arg1) (Finset.mem_filter.mpr ⟨StableHlo.devRef_mem_tcRefs main_arg1, by decide⟩)).trans (VZ_arg1 m c),
   (h (Proc.devRef .tc main_arg2) (Finset.mem_filter.mpr ⟨StableHlo.devRef_mem_tcRefs main_arg2, by decide⟩)).trans (VZ_arg2 m c),
   (h (Proc.devRef .tc main_arg3) (Finset.mem_filter.mpr ⟨StableHlo.devRef_mem_tcRefs main_arg3, by decide⟩)).trans (VZ_arg3 m c),
   (h (Proc.devRef .tc main_arg4) (Finset.mem_filter.mpr ⟨StableHlo.devRef_mem_tcRefs main_arg4, by decide⟩)).trans (VZ_arg4 m c)⟩

set_option backward.isDefEq.respectTransparency.types false in
/-- From any memory with zero counters every fair execution of the program on the eight devices ends, and every final state has
    each device's arguments unchanged, its result the gathered sums, and every semaphore counter at zero. -/
theorem run_main : θ_run defs (onTc (τ := τ) (main (F := F))) ⟨m, fun _ => 0, ρ⟩
    (fun r => (∀ c : Dev nD, Ends m c r.2.mem) ∧ r.2.sem = fun _ => 0) := by
  refine Pipeline.θ_run_regions_kit_dev_sems (pcfgs (F := F)) adm (pdats m) () cellOf_inj EP defs₀ 𝒱₀ L lv m ρ main
    (segs m 𝒱₀ L lv (EE m) () (pdats m) (R0 m))
    (fun c Q => by
      rewrite [main_chain c, Seg.run_eq_chain,
        show (segs m 𝒱₀ L lv (EE m) () (pdats m) (R0 m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne (G (F := F)) u₀
    ?_ (T₀ := T₀ m) (Tₙ := Tₙ m)
    (hch := fun c => ⟨.rfl, R0_pre m c, R0_post m c⟩)
    (hinit := init m ρ) (QY := fun c s => Ends m c s.mem ∧ s.sem (barC c) = 0)
    (hfin := fun c s' => ?_) (hQ := fun s h hs => ⟨fun c => (h c).1, sem_eq_zero hs fun c sm hsm => by
        obtain rfl := unscoped_eq sm hsm
        exact (h c).2⟩)
  · unfold u₀
    iintro Hu
    ihave H := (ownU_pair _ _) $$ Hu
    icases H with ⟨HP, HX⟩
    imodintro
    isplitl [HP]; · iexact HP
    rw [G_all]; iexact HX
  · dsimp only [Tₙ]; unfold StableHlo.held
    iintro ⟨⟨Hh, Hb⟩, HSI⟩
    icombine HSI Hb gives %hb
    ihave Hr := (pointsTo_read_all (Pipeline.ucRefs τ sig) (fun b => ((c : Thread nD τ).1, b)) (VZ m c) s') $$ [Hh HSI]
    · isplitl [Hh] <;> iassumption
    icases Hr with ⟨%h, HSI⟩
    imodintro
    isplitr
    · ipureintro
      exact ⟨ends_of m c s'.mem.mem h, by simpa using hb⟩
    · iexact HSI

end Cert.KernelIdeal.Hand

end
-- ==== Proof.Value.Real.lean ====
/- Extended-real arithmetic of a softmax: a real factor that is not negative goes through a sum, a weighted mean does not
   depend on the shift of the exponents, and a product of real sums is real. -/
module

public import Idealize.ShloMosaic.PureOps.Ideal.Laws
public import Idealize.ShloMosaic.Lib.Pointwise

@[expose] public section

set_option maxRecDepth 16384

noncomputable section

namespace Cert.Value

open Idealize.ShloMosaic

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes through a sum. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem div_real {x : EReal} {r : ℝ} (hr : r ≠ 0) : Ideal.div x (r : EReal) = x * ((r⁻¹ : ℝ) : EReal) := by
  unfold Ideal.div
  rw [if_neg (by exact_mod_cast hr), EReal.coe_inv]

theorem exp_real (r : ℝ) : Ideal.exp (r : EReal) = (Real.exp r : EReal) := rfl

theorem sub_real (a b : ℝ) : (a : EReal) - (b : EReal) = ((a - b : ℝ) : EReal) := (EReal.coe_sub a b).symm

theorem isReal_iff {x : EReal} (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- The weighted mean of `v` under the weights `exp s`, divided after summing or before and with the exponents shifted. -/
theorem softmax_eq {n : ℕ} (s : Fin (n + 1) → ℝ) (M : ℝ) (v : Fin (n + 1) → EReal) :
    Ideal.div (∑ j, Ideal.exp (s j : EReal) * v j) (∑ j, Ideal.exp (s j : EReal))
      = ∑ j, v j * Ideal.div (Ideal.exp ((s j : EReal) - (M : EReal))) (∑ j, Ideal.exp ((s j : EReal) - (M : EReal))) := by
  have e1 : ∑ j, Ideal.exp (s j : EReal) = ((∑ j, Real.exp (s j) : ℝ) : EReal) := (coe_sum _ _).symm
  have e2 : ∑ j, Ideal.exp ((s j : EReal) - (M : EReal)) = ((∑ j, Real.exp (s j - M) : ℝ) : EReal) := by
    rw [coe_sum]; exact Finset.sum_congr rfl fun j _ => by rw [sub_real, exp_real]
  have p1 : 0 < ∑ j, Real.exp (s j) := Finset.sum_pos (fun j _ => Real.exp_pos _) Finset.univ_nonempty
  have p2 : 0 < ∑ j, Real.exp (s j - M) := Finset.sum_pos (fun j _ => Real.exp_pos _) Finset.univ_nonempty
  rw [e1, e2, div_real p1.ne', sum_mul_real _ _ (inv_nonneg.mpr p1.le)]
  refine Finset.sum_congr rfl fun j _ => ?_
  rw [div_real p2.ne', sub_real, exp_real, exp_real, mul_comm _ (v j), mul_assoc, ← EReal.coe_mul, ← EReal.coe_mul]
  congr 2
  have e3 : ∑ j, Real.exp (s j - M) = (∑ j, Real.exp (s j)) * Real.exp (-M) := by
    rw [Finset.sum_mul]; exact Finset.sum_congr rfl fun j _ => by rw [← Real.exp_add, sub_eq_add_neg]
  rw [e3, sub_eq_add_neg, Real.exp_add]
  have hM := (Real.exp_pos (-M)).ne'
  field_simp

/-- The greatest of finitely many reals, from minus infinity, is real. -/
theorem fold_max_real {n : ℕ} (s : Fin (n + 1) → ℝ) :
    ∃ M : ℝ, Finset.univ.fold max (⊥ : EReal) (fun j => (s j : EReal)) = (M : EReal) := by
  have h : ∀ t : Finset (Fin (n + 1)), t.fold max (⊥ : EReal) (fun j => (s j : EReal)) = ⊥ ∧ t = ∅
      ∨ ∃ M : ℝ, t.fold max (⊥ : EReal) (fun j => (s j : EReal)) = (M : EReal) := by
    intro t
    induction t using Finset.induction_on with
    | empty => exact .inl ⟨rfl, rfl⟩
    | insert a t ha ih =>
      right
      rw [Finset.fold_insert ha]
      rcases ih with ⟨h, -⟩ | ⟨M, h⟩
      · rw [h]; exact ⟨s a, max_bot_right _⟩
      · rw [h]; exact ⟨max (s a) M, (EReal.coe_strictMono.monotone.map_max).symm⟩
  rcases h Finset.univ with ⟨-, h⟩ | h
  · exact absurd h Finset.univ_nonempty.ne_empty
  · exact h

/-- A pattern whose exponent is not all ones denotes a real. -/
theorem ofBits_real (b : BitVec 32) (h : (b.extractLsb' 23 8).toNat ≠ 2 ^ 8 - 1) : ∃ r : ℝ, Ideal.ofBits .f32 b = (r : EReal) := by
  show ∃ r : ℝ, Ideal.ieee 8 23 b = (r : EReal)
  unfold Ideal.ieee
  simp only [if_neg h]
  split
  · exact ⟨_, rfl⟩
  · exact ⟨_, rfl⟩

/-- A sum over 2048 columns, as one over eight devices, four heads and the sixty-four columns of a head. -/
theorem sum_cols (f : Fin 2048 → EReal) :
    ∑ n, f n = ∑ c : Fin 8, ∑ h : Fin 4, ∑ d : Fin 64, f ⟨256 * c.val + (64 * h.val + d.val), by omega⟩ := by
  rw [← (finProdFinEquiv (m := 8) (n := 256)).sum_comp f, Fintype.sum_prod_type]
  refine Finset.sum_congr rfl fun c _ => ?_
  rw [← (finProdFinEquiv (m := 4) (n := 64)).sum_comp, Fintype.sum_prod_type]
  refine Finset.sum_congr rfl fun h _ => Finset.sum_congr rfl fun d _ => congrArg f (Fin.ext ?_)
  show _ + 256 * c.val = _
  show (d.val + 64 * h.val) + 256 * c.val = _
  show _ = 256 * c.val + (64 * h.val + d.val)
  omega

end Cert.Value

end
-- ==== Proof.Value.Mask.lean ====
/- The block mask: the kernel's bit at a query and a key. -/
module

public import Idealize.ShloMosaic.Lib.Pointwise
public import proofs.«01_k».proof.Proof.KernelIdeal.Values

@[expose] public section

set_option maxRecDepth 16384

noncomputable section

namespace Cert.Value

open Idealize.ShloMosaic
open Cert.KernelIdeal Cert.KernelIdeal.Gen Cert.KernelIdeal.Hand

variable [Cert.KernelIdeal.Facts]

/-- Query `i` attends to key `j`: blocks of sixty-four equal, the key's block the first, or their sum a multiple of three. -/
def bit (i j : Fin 256) : BitVec 1 :=
  if i.val / 64 = j.val / 64 ∨ j.val / 64 = 0 ∨ (i.val / 64 + j.val / 64) % 3 = 0 then 1#1 else 0#1

/-- The printed quotient of a position by sixty-four is its block's number. -/
theorem blkWord : ∀ i : Fin 256,
    Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) =
    BitVec.ofNat 32 (i.val / 64) := by
  decide +kernel

theorem qBlk (i j : Fin 256) : mk2 (ix2 i j) = BitVec.ofNat 32 (i.val / 64) := by
  pointwise [k0_pay2, k0_pay1]
  exact blkWord i
theorem kBlk (i j : Fin 256) : k0_pay3 (ix2 i j) = BitVec.ofNat 32 (j.val / 64) := by
  pointwise [k0_pay3]
  exact blkWord j

/-- The kernel's mask at a query and a key. -/
theorem msk_apply (i j : Fin 256) : msk (ix2 i j) = bit i j := by
  have h0 : k0_pay2 iot 64#32 k0_pay1 0#32 (ix2 i j) = BitVec.ofNat 32 (i.val / 64) := qBlk i j
  have h1 := qBlk i j
  have h2 := kBlk i j
  have ha : i.val / 64 < 4 := by omega
  have hb : j.val / 64 < 4 := by omega
  pointwise [k0_pay5, k0_pay4]
  rw [h0, h1, h2]
  unfold bit
  generalize i.val / 64 = a at ha ⊢
  generalize j.val / 64 = b at hb ⊢
  interval_cases a <;> interval_cases b <;> decide

end Cert.Value

end
-- ==== Proof.Value.Rows.lean ====
/- A device's partial product at an index: per head a softmax-weighted mean of the values, multiplied by the device's rows
   of the output weights. -/
module

public import Idealize.ShloMosaic.Lib.Pointwise
public import proofs.«01_k».proof.Proof.Value.Real
public import proofs.«01_k».proof.Proof.Value.Mask

@[expose] public section

set_option maxRecDepth 16384

noncomputable section

namespace Cert.Value

open Idealize.ShloMosaic
open Cert.KernelIdeal Cert.KernelIdeal.Gen Cert.KernelIdeal.Hand

variable [Cert.KernelIdeal.Facts]

/-- The masked score of query `i` and key `j` in one head. -/
def score (q k : Fin 256 → Fin 64 → EReal) (i j : Fin 256) : EReal :=
  Scalar.select (bit i j) (∑ e, q i e * k j e) (Ideal.ofBits .f32 0xCE6E6B28#32)

/-- One head: the mean of the values under the exponentials of the scores. -/
def head (q k v : Fin 256 → Fin 64 → EReal) (i : Fin 256) (d : Fin 64) : EReal :=
  Ideal.div (∑ j, Ideal.exp (score q k i j) * v j d) (∑ j, Ideal.exp (score q k i j))

section Loads

theorem ld_head (f : S2x256x256.Idx → Elt Ideal .f32) (b c : ℕ) (hb : b < 2) (hc : c + 64 ≤ 256) (h) (j : Fin 256) (d : Fin 64) :
    ld (F := Ideal) f (Rect.unit (s := S2x256x256) ![b, 0, c] S1x256x64.size h) (ix3 0 j d)
      = f (ix3 ⟨b, hb⟩ j ⟨c + d.val, by omega⟩) := by
  refine congrArg f (funext fun a => Fin.ext ?_)
  match a with
  | 0 => rfl
  | 1 => show 0 + 1 * j.val = j.val; omega
  | 2 => show c + 1 * d.val = c + d.val; omega
theorem ld_x (f : S2x256x512.Idx → Elt Ideal .f32) (b : ℕ) (hb : b < 2) (h) (j : Fin 256) (d : Fin 512) :
    ld (F := Ideal) f (Rect.unit (s := S2x256x512) ![b, 0, 0] S1x256x512.size h) (ix3 0 j d) = f (ix3 ⟨b, hb⟩ j d) := by
  refine congrArg f (funext fun a => Fin.ext ?_)
  match a with
  | 0 => rfl
  | 1 => show 0 + 1 * j.val = j.val; omega
  | 2 => show 0 + 1 * d.val = d.val; omega
theorem ld_q (f : S512x256.Idx → Elt Ideal .f32) (i : Fin 512) (j : Fin 256) : ld (F := Ideal) f rQ (ix2 i j) = f (ix2 i j) := by
  refine congrArg f (funext fun a => Fin.ext ?_)
  match a with
  | 0 => show 0 + 1 * i.val = i.val; omega
  | 1 => show 0 + 1 * j.val = j.val; omega
theorem ld_w (f : S256x512.Idx → Elt Ideal .f32) (i : Fin 256) (j : Fin 512) : ld (F := Ideal) f rW (ix2 i j) = f (ix2 i j) := by
  refine congrArg f (funext fun a => Fin.ext ?_)
  match a with
  | 0 => show 0 + 1 * i.val = i.val; omega
  | 1 => show 0 + 1 * j.val = j.val; omega

end Loads

theorem sum256 (f : Fin 256 → EReal) : ∑ n, f n = ∑ h : Fin 4, ∑ d : Fin 64, f ⟨64 * h.val + d.val, by omega⟩ := by
  rw [← (finProdFinEquiv (m := 4) (n := 64)).sum_comp, Fintype.sum_prod_type]
  refine Finset.sum_congr rfl fun h _ => Finset.sum_congr rfl fun d _ => congrArg f (Fin.ext ?_)
  show d.val + 64 * h.val = _
  show _ = 64 * h.val + d.val
  omega

theorem sum256' (f : Fin 256 → EReal) : ∑ n, f n = ∑ d : Fin 64, f ⟨d.val, by omega⟩ + ∑ d : Fin 64, f ⟨64 + d.val, by omega⟩
    + ∑ d : Fin 64, f ⟨128 + d.val, by omega⟩ + ∑ d : Fin 64, f ⟨192 + d.val, by omega⟩ := by
  rw [sum256, Fin.sum_univ_four]
  simp only [Fin.val_zero, Fin.val_one, Fin.val_two, Nat.mul_zero, Nat.zero_add, Nat.mul_one]
  rfl

section Heads

variable (M : IVec S256x256 1) (hM : ∀ i j, M (ix2 i j) = bit i j) (P : FVec Ideal S256x256 .f32)
  (X : Vec Ideal S1x256x512 .f32) (Q : Vec Ideal S512x256 .f32)
  (K V : Vec Ideal S1x256x64 .f32) (i : Fin 256) (d : Fin 64)

/-- The scaled queries. -/
theorem pay6_apply (n : Fin 256) :
    k0_pay6 X Q (ix2 i n) = (∑ e, X (ix3 0 i e) * Q (ix2 e n)) * Ideal.ofBits .f32 0x3E000000#32 := by
  pointwise [k0_pay6]
theorem pay13_apply (n : Fin 256) :
    k0_pay13 X Q (ix2 i n) = (∑ e, X (ix3 0 i e) * Q (ix2 e n)) * Ideal.ofBits .f32 0x3E000000#32 := by
  pointwise [k0_pay13]

include hM in
theorem pay9_apply : k0_pay9 M P K V (ix2 i d)
    = head (fun i e => P (ix2 i ⟨64 + e.val, by omega⟩)) (fun j e => K (ix3 0 j e)) (fun j d => V (ix3 0 j d)) i d := by
  pointwise [k0_pay9, head, score]
  simp only [hM]
include hM in
theorem pay10_apply : k0_pay10 M P K V (ix2 i d)
    = head (fun i e => P (ix2 i ⟨128 + e.val, by omega⟩)) (fun j e => K (ix3 0 j e)) (fun j d => V (ix3 0 j d)) i d := by
  pointwise [k0_pay10, head, score]
  simp only [hM]
include hM in
theorem pay16_apply : k0_pay16 M P K V (ix2 i d)
    = head (fun i e => P (ix2 i ⟨64 + e.val, by omega⟩)) (fun j e => K (ix3 0 j e)) (fun j d => V (ix3 0 j d)) i d := by
  pointwise [k0_pay16, head, score]
  simp only [hM]
include hM in
theorem pay18_apply : Ideal.div (k0_pay18 M P K V (ix2 i d)) (k0_pay19 M P K (ix2 i d))
    = head (fun i e => P (ix2 i ⟨128 + e.val, by omega⟩)) (fun j e => K (ix3 0 j e)) (fun j d => V (ix3 0 j d)) i d := by
  pointwise [k0_pay18, k0_pay19, k0_pay17, head, score]
  simp only [hM]
include hM in
theorem pay15_apply : k0_pay15 (k0_pay14 M X Q K) V (ix2 i d)
    = head (fun i e => k0_pay13 X Q (ix2 i ⟨e.val, by omega⟩)) (fun j e => K (ix3 0 j e)) (fun j d => V (ix3 0 j d)) i d := by
  pointwise [k0_pay15, k0_pay14, head, score]
  simp only [hM]
theorem pay8_apply (m1 m2 : IVec S256x256 32) (m3 : IVec S256x256 1) (hm : ∀ i j, k0_pay5 m1 m2 m3 (ix2 i j) = bit i j) :
    k0_pay8 (k0_pay7 m1 m2 m3 X Q K) V (ix2 i d)
    = head (fun i e => k0_pay6 X Q (ix2 i ⟨e.val, by omega⟩)) (fun j e => K (ix3 0 j e)) (fun j d => V (ix3 0 j d)) i d := by
  pointwise [k0_pay8, k0_pay7, head, score]
  simp only [hm]

theorem pay11_apply (e : Fin 64) : k0_pay11 P (ix2 i e) = P (ix2 i ⟨192 + e.val, by omega⟩) := by
  pointwise [k0_pay11]

include hM in
theorem pay12_apply (A B C q : FVec Ideal S256x64 .f32) (W : Vec Ideal S256x512 .f32) (o : Fin 512) :
    k0_pay12 M A B C q K V W (ix3 0 i o) = ∑ d : Fin 64, A (ix2 i d) * W (ix2 ⟨d.val, by omega⟩ o)
      + ∑ d : Fin 64, B (ix2 i d) * W (ix2 ⟨64 + d.val, by omega⟩ o) + ∑ d : Fin 64, C (ix2 i d) * W (ix2 ⟨128 + d.val, by omega⟩ o)
      + ∑ d : Fin 64, head (fun i e => q (ix2 i e)) (fun j e => K (ix3 0 j e)) (fun j d => V (ix3 0 j d)) i d
          * W (ix2 ⟨192 + d.val, by omega⟩ o) := by
  pointwise [k0_pay12, head, score]
  simp only [hM]
  rw [sum256']
  dsimp only
  refine Ideal.add_congr (Ideal.add_congr (Ideal.add_congr ?_ ?_) ?_) ?_ <;> refine Finset.sum_congr rfl fun d _ => Ideal.mul_congr ?_ rfl
  · rw [dif_pos d.isLt]
  · have e : 64 + d.val - 64 = d.val := by omega
    rw [dif_neg (by omega), dif_pos (by omega)]
    simp only [e]
  · have e : 128 + d.val - 64 - 64 = d.val := by omega
    rw [dif_neg (by omega), dif_neg (by omega), dif_pos (by omega)]
    simp only [e]
  · have e : 192 + d.val - 64 - 64 - 64 = d.val := by omega
    rw [dif_neg (by omega), dif_neg (by omega), dif_neg (by omega)]
    simp only [e]
include hM in
theorem pay20_apply (A B : FVec Ideal S256x64 .f32) (K2 V2 : Vec Ideal S1x256x64 .f32) (W : Vec Ideal S256x512 .f32) (o : Fin 512) :
    k0_pay20 M P A B (k0_pay18 M P K2 V2) (k0_pay19 M P K2) K V W (ix3 0 i o) = ∑ d : Fin 64, A (ix2 i d) * W (ix2 ⟨d.val, by omega⟩ o)
      + ∑ d : Fin 64, B (ix2 i d) * W (ix2 ⟨64 + d.val, by omega⟩ o)
      + ∑ d : Fin 64, head (fun i e => P (ix2 i ⟨128 + e.val, by omega⟩)) (fun j e => K2 (ix3 0 j e)) (fun j d => V2 (ix3 0 j d)) i d
          * W (ix2 ⟨128 + d.val, by omega⟩ o)
      + ∑ d : Fin 64, head (fun i e => P (ix2 i ⟨192 + e.val, by omega⟩)) (fun j e => K (ix3 0 j e)) (fun j d => V (ix3 0 j d)) i d
          * W (ix2 ⟨192 + d.val, by omega⟩ o) := by
  simp only [← pay18_apply M hM P K2 V2]
  pointwise [k0_pay20, head, score]
  simp only [hM]
  rw [sum256']
  dsimp only
  refine Ideal.add_congr (Ideal.add_congr (Ideal.add_congr ?_ ?_) ?_) ?_ <;> refine Finset.sum_congr rfl fun d _ => Ideal.mul_congr ?_ rfl
  · rw [dif_pos d.isLt]
  · have e : 64 + d.val - 64 = d.val := by omega
    rw [dif_neg (by omega), dif_pos (by omega)]
    simp only [e]
  · have e : 128 + d.val - 64 - 64 = d.val := by omega
    rw [dif_neg (by omega), dif_neg (by omega), dif_pos (by omega)]
    simp only [e]
  · have e : 192 + d.val - 64 - 64 - 64 = d.val := by omega
    rw [dif_neg (by omega), dif_neg (by omega), dif_neg (by omega)]
    simp only [e]

end Heads

section Part

variable (x : S2x256x512.Idx → Elt Ideal .f32) (q : S512x256.Idx → Elt Ideal .f32) (k v : S2x256x256.Idx → Elt Ideal .f32)
  (w : S256x512.Idx → Elt Ideal .f32)

/-- The device's scaled queries. -/
def qry (b : Fin 2) (i : Fin 256) (n : Fin 256) : EReal :=
  (∑ e : Fin 512, x (ix3 b i e) * q (ix2 e n)) * Ideal.ofBits .f32 0x3E000000#32

/-- Head `h` of the device. -/
def hd (b : Fin 2) (h : Fin 4) (i : Fin 256) (d : Fin 64) : EReal :=
  head (fun i e => qry x q b i ⟨64 * h.val + e.val, by omega⟩) (fun j e => k (ix3 b j ⟨64 * h.val + e.val, by omega⟩))
    (fun j e => v (ix3 b j ⟨64 * h.val + e.val, by omega⟩)) i d

/-- The partial product. -/
def partial_ (b : Fin 2) (i : Fin 256) (o : Fin 512) : EReal :=
  ∑ h : Fin 4, ∑ d : Fin 64, hd x q k v b h i d * w (ix2 ⟨64 * h.val + d.val, by omega⟩ o)

theorem row0_apply (i : Fin 256) (o : Fin 512) : row0 x q k v w (ix3 0 i o) = partial_ x q k v w 0 i o := by
  unfold row0 partial_
  rw [pay12_apply _ msk_apply, Fin.sum_univ_four]
  simp only [pay9_apply _ msk_apply, pay10_apply _ msk_apply, pay8_apply _ _ _ _ _ _ _ _ _ msk_apply, pay11_apply, pay6_apply,
    ld_head _ 0 0 (by omega) (by omega), ld_head _ 0 64 (by omega) (by omega), ld_head _ 0 128 (by omega) (by omega),
    ld_head _ 0 192 (by omega) (by omega), ld_x _ 0 (by omega), ld_q, ld_w]
  simp only [hd, qry, Fin.val_zero, Fin.val_one, Fin.val_two, Nat.mul_zero, Nat.zero_add, Nat.mul_one]
  rfl
theorem row1_apply (i : Fin 256) (o : Fin 512) : row1 x q k v w (ix3 0 i o) = partial_ x q k v w 1 i o := by
  unfold row1 partial_
  rw [pay20_apply _ msk_apply, Fin.sum_univ_four]
  simp only [pay16_apply _ msk_apply, pay15_apply _ msk_apply, pay13_apply,
    ld_head _ 1 0 (by omega) (by omega), ld_head _ 1 64 (by omega) (by omega), ld_head _ 1 128 (by omega) (by omega),
    ld_head _ 1 192 (by omega) (by omega), ld_x _ 1 (by omega), ld_q, ld_w]
  simp only [hd, qry, Fin.val_zero, Fin.val_one, Fin.val_two, Nat.mul_zero, Nat.zero_add, Nat.mul_one]
  rfl

theorem part_apply (b : Fin 2) (i : Fin 256) (o : Fin 512) : part x q k v w (ix3 b i o) = partial_ x q k v w b i o := by
  have hb : inBatch (ix3 b i o) = ix3 0 i o := by
    funext a
    match a with
    | 0 => rfl
    | 1 => rfl
    | 2 => rfl
  unfold part
  rw [hb, row0_apply, row1_apply]
  match b with
  | 0 => exact if_pos rfl
  | 1 => exact if_neg (show ¬ ((1 : Fin 2).val = 0) by decide)

end Part

end Cert.Value

end
-- ==== Proof.Value.Steps.lean ====
/- The reference's result cut into its steps: block numbers, mask, scores, exponentials, attention weights, output. -/
module

public import Idealize.ShloMosaic.Lib.Pointwise
public import proofs.«01_k».proof.Proof.Gen.ReferenceIdeal.Run

@[expose] public section

set_option maxRecDepth 16384

noncomputable section

namespace Cert.Ref

open Cert.ReferenceIdeal Cert.ReferenceIdeal.Gen Idealize.ShloMosaic Idealize.ShloMosaic.TcCoe Idealize.SL.Sem

/-- The block number of each position. -/
def rBlk : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))

/-- The query's block number over the square. -/
def rCol : IVec S256x256 32 :=
  broadcastInDim S256x256 ![0, 1] bcast_S256x1_S256x256_0_1 (broadcastInDim S256x1 ![0] bcast_S256_S256x1_0 rBlk)

/-- The key's block number over the square. -/
def rRow : IVec S256x256 32 :=
  broadcastInDim S256x256 ![0, 1] bcast_S1x256_S256x256_0_1 (broadcastInDim S1x256 ![1] bcast_S256_S1x256_1 rBlk)

/-- The divisor three over the square. -/
def rThree : IVec S256x256 32 :=
  broadcastInDim S256x256 ![] bcast_S_S256x256 (select (cmpi .eq (id (constantI S_ 32 3#32)) (constantI S_ 32 0#32)) (constantI S_ 32 1#32) (id (constantI S_ 32 3#32)))

/-- The remainder of the blocks' sum by three. -/
def rRem : IVec S256x256 32 :=
  Host.remsi (addi rCol rRow) rThree

/-- The block mask. -/
def rMask : IVec S256x256 1 :=
  ori (ori (cmpi .eq rCol rRow) (broadcastInDim S256x256 ![0, 1] bcast_S1x256_S256x256_0_1 (cmpi .eq (broadcastInDim S1x256 ![1] bcast_S256_S1x256_1 rBlk) (broadcastInDim S1x256 ![] bcast_S_S1x256 (constantI S_ 32 0#32))))) (cmpi .eq (select (andi (cmpi .ne (cmpi .slt rRem (broadcastInDim S256x256 ![] bcast_S_S256x256 (constantI S_ 32 0#32))) (broadcastInDim S256x256 ![] bcast_S_S256x256 (cmpi .slt (select (cmpi .eq (id (constantI S_ 32 3#32)) (constantI S_ 32 0#32)) (constantI S_ 32 1#32) (id (constantI S_ 32 3#32))) (constantI S_ 32 0#32)))) (cmpi .ne rRem (broadcastInDim S256x256 ![] bcast_S_S256x256 (constantI S_ 32 0#32)))) (addi rRem rThree) rRem) (broadcastInDim S256x256 ![] bcast_S_S256x256 (constantI S_ 32 0#32)))

/-- Whether a query's row keeps any key. -/
def rAny : IVec S256 1 :=
  Host.reduce IntOp.ori rMask (constantI S_ 1 0#1) reducesTo_S256x256_S256_d1 h_S_

/-- The queries: the input times the query weights. -/
def rQ (x : FVec Ideal S2x256x512 .f32) (wq : FVec Ideal S512x2048 .f32) : FVec Ideal S2x256x2048 .f32 :=
  Host.dotGeneral dot_S2x256x512_S512x2048_S2x256x2048_2_0_01_1_n_n none x wq

/-- The masked scores of given queries and keys. -/
def rScore (q : FVec Ideal S2x256x2048 .f32) (k : FVec Ideal S2x256x32x64 .f32) : FVec Ideal S2x32x256x256 .f32 :=
  select (broadcastInDim S2x32x256x256 ![0, 1, 2, 3] bcast_S1x1x256x256_S2x32x256x256_0_1_2_3 (broadcastInDim S1x1x256x256 ![2, 3] bcast_S256x256_S1x1x256x256_2_3 rMask)) (mulf (Host.dotGeneral dot_S2x256x32x64_S2x256x32x64_S2x32x256x256_3_3_1_1_02_02 none (shapeCast _ q shapeCasts_S2x256x2048_S2x256x32x64) k) (broadcastInDim S2x32x256x256 ![] bcast_S_S2x32x256x256 (constant S_ .f32 0x3E000000#32))) (broadcastInDim S2x32x256x256 ![] bcast_S_S2x32x256x256 (id (constant S_ .f32 0xCE6E6B28#32)))

/-- Each row's largest score. -/
def rMax (s : FVec Ideal S2x32x256x256 .f32) : FVec Ideal S2x32x256 .f32 :=
  Host.reduce FloatOps.maximumf s (constant S_ .f32 0xFF800000#32) reducesTo_S2x32x256x256_S2x32x256_d3 h_S_

/-- The exponentials of scores less their row's bound. -/
def rExp (s : FVec Ideal S2x32x256x256 .f32) (t : FVec Ideal S2x32x256 .f32) : FVec Ideal S2x32x256x256 .f32 :=
  Host.exp (subf s (broadcastInDim S2x32x256x256 ![0, 1, 2, 3] bcast_S2x32x256x1_S2x32x256x256_0_1_2_3 (broadcastInDim S2x32x256x1 ![0, 1, 2] bcast_S2x32x256_S2x32x256x1_0_1_2 t)))

/-- Each row's sum. -/
def rSum (e : FVec Ideal S2x32x256x256 .f32) : FVec Ideal S2x32x256 .f32 :=
  Host.reduceAdd e (constant S_ .f32 0x00000000#32) reducesTo_S2x32x256x256_S2x32x256_d3 h_S_

/-- The attention weights of exponentials and their sums. -/
def rProb (e : FVec Ideal S2x32x256x256 .f32) (z : FVec Ideal S2x32x256 .f32) : FVec Ideal S2x32x256x256 .f32 :=
  select (broadcastInDim S2x32x256x256 ![0, 1, 2, 3] bcast_S1x1x256x1_S2x32x256x256_0_1_2_3 (broadcastInDim S1x1x256x1 ![2] bcast_S256_S1x1x256x1_2 rAny)) (Host.divf e (broadcastInDim S2x32x256x256 ![0, 1, 2, 3] bcast_S2x32x256x1_S2x32x256x256_0_1_2_3 (select (broadcastInDim S2x32x256x1 ![0, 1, 2, 3] bcast_S1x1x256x1_S2x32x256x1_0_1_2_3 (broadcastInDim S1x1x256x1 ![2] bcast_S256_S1x1x256x1_2 rAny)) (broadcastInDim S2x32x256x1 ![0, 1, 2] bcast_S2x32x256_S2x32x256x1_0_1_2 z) (broadcastInDim S2x32x256x1 ![] bcast_S_S2x32x256x1 (id (constant S_ .f32 0x3F800000#32)))))) (broadcastInDim S2x32x256x256 ![] bcast_S_S2x32x256x256 (id (constant S_ .f32 0x00000000#32)))

/-- The output of attention weights, values and output weights. -/
def rOut (p : FVec Ideal S2x32x256x256 .f32) (v : FVec Ideal S2x256x32x64 .f32) (wo : FVec Ideal S2048x512 .f32) : FVec Ideal S2x256x512 .f32 :=
  Host.dotGeneral dot_S2x256x2048_S2048x512_S2x256x512_2_0_01_1_n_n none (shapeCast _ (transpose S2x256x32x64 [0, 3, 1, 2] (Host.dotGeneral dot_S2x256x32x64_S2x32x256x256_S2x32x64x256_1_3_3_2_02_01 none v p) transposes_S2x32x64x256_S2x256x32x64_0_3_1_2) shapeCasts_S2x256x32x64_S2x256x2048) wo

/-- The reference's result of its five arguments. -/
def ref (x : FVec Ideal S2x256x512 .f32) (wq : FVec Ideal S512x2048 .f32) (k v : FVec Ideal S2x256x32x64 .f32) (wo : FVec Ideal S2048x512 .f32) : FVec Ideal S2x256x512 .f32 :=
  rOut (rProb (rExp (rScore (rQ x wq) k) (rMax (rScore (rQ x wq) k)))
    (rSum (rExp (rScore (rQ x wq) k) (rMax (rScore (rQ x wq) k))))) v wo

/-- The run's result is the steps' composition. -/
theorem result_eq (m : (ℓ : Loc nD τ sig) → Buf (Elt Ideal) ℓ) (c : Dev nD) :
    Cert.ReferenceIdeal.Value.res_main_v44 (F := Ideal) m c =
      ref (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Cert.ReferenceIdeal.Value.res_main_v44
  rfl

end Cert.Ref

end
-- ==== Proof.Value.Reads.lean ====
/- The reference's steps at an index. -/
module

public import proofs.«01_k».proof.Proof.Value.Mask
public import proofs.«01_k».proof.Proof.Value.Steps

@[expose] public section

set_option maxRecDepth 16384

noncomputable section

namespace Cert.Ref

open Idealize.ShloMosaic
open Cert.ReferenceIdeal Cert.ReferenceIdeal.Gen
open Cert.Value (bit)

theorem rBlk_apply (i : Fin 256) : rBlk (ix1 i) = BitVec.ofNat 32 (i.val / 64) := by
  pointwise [rBlk]
  revert i
  decide +kernel

theorem rCol_apply (i j : Fin 256) : rCol (ix2 i j) = BitVec.ofNat 32 (i.val / 64) := by
  pointwise [rCol]
  exact rBlk_apply i

theorem rRow_apply (i j : Fin 256) : rRow (ix2 i j) = BitVec.ofNat 32 (j.val / 64) := by
  pointwise [rRow]
  exact rBlk_apply j

theorem rMask_apply (i j : Fin 256) : rMask (ix2 i j) = bit i j := by
  have h0 := rBlk_apply j
  have h1 := rCol_apply i j
  have h2 := rRow_apply i j
  have ha : i.val / 64 < 4 := by omega
  have hb : j.val / 64 < 4 := by omega
  pointwise [rMask, rRem, rThree]
  rw [h0, h1, h2]
  unfold bit
  generalize i.val / 64 = a at ha ⊢
  generalize j.val / 64 = b at hb ⊢
  interval_cases a <;> interval_cases b <;> decide

theorem one_ori (z : BitVec 1) : IntOp.ori 1#1 z = 1#1 := by
  revert z
  decide

/-- Every query keeps a key: the first block's keys are kept by all. -/
theorem rAny_apply (i : Fin 256) : rAny (ix1 i) = 1#1 := by
  pointwise [rAny]
  rw [← Finset.insert_erase (Finset.mem_univ (0 : Fin 256)), Finset.fold_insert (Finset.notMem_erase _ _), rMask_apply]
  have h : bit i 0 = 1#1 := if_pos (Or.inr (Or.inl rfl))
  rw [h]
  exact one_ori _

theorem rQ_apply (x : FVec Ideal S2x256x512 .f32) (wq : FVec Ideal S512x2048 .f32) (b : Fin 2) (i : Fin 256) (n : Fin 2048) :
    rQ x wq (ix3 b i n) = ∑ e : Fin 512, (x (ix3 b i e) * wq (ix2 e n) : EReal) := by
  pointwise [rQ]

theorem rScore_apply (q : FVec Ideal S2x256x2048 .f32) (k : FVec Ideal S2x256x32x64 .f32) (b : Fin 2) (h : Fin 32) (i j : Fin 256) :
    rScore q k (ix4 b h i j) = Scalar.select (bit i j)
      ((∑ e : Fin 64, (q (ix3 b i ⟨64 * h.val + e.val, by omega⟩) * k (ix4 b j h e) : EReal)) * Ideal.ofBits .f32 0x3E000000#32)
      (Ideal.ofBits .f32 0xCE6E6B28#32) := by
  have h0 := rMask_apply i j
  pointwise [rScore]
  rw [h0]
  simp only [mul_comm 64 h.val]
  rfl

/-- The word a largest value starts from is the least value. -/
theorem ofBits_bot : Ideal.ofBits .f32 0xFF800000#32 = (⊥ : EReal) := by
  show Ideal.ieee 8 23 0xFF800000#32 = ⊥
  unfold Ideal.ieee
  simp

theorem rMax_apply (s : FVec Ideal S2x32x256x256 .f32) (b : Fin 2) (h : Fin 32) (i : Fin 256) :
    rMax s (ix3 b h i) = Finset.univ.fold max (⊥ : EReal) (fun j : Fin 256 => s (ix4 b h i j)) := by
  pointwise [rMax]
  rw [ofBits_bot]

theorem rExp_apply (s : FVec Ideal S2x32x256x256 .f32) (t : FVec Ideal S2x32x256 .f32) (b : Fin 2) (h : Fin 32) (i j : Fin 256) :
    rExp s t (ix4 b h i j) = Ideal.exp (s (ix4 b h i j) - t (ix3 b h i)) := by
  pointwise [rExp]

theorem rSum_apply (e : FVec Ideal S2x32x256x256 .f32) (b : Fin 2) (h : Fin 32) (i : Fin 256) :
    rSum e (ix3 b h i) = ∑ j : Fin 256, (e (ix4 b h i j) : EReal) := by
  pointwise [rSum]

theorem rProb_apply (e : FVec Ideal S2x32x256x256 .f32) (z : FVec Ideal S2x32x256 .f32) (b : Fin 2) (h : Fin 32) (i j : Fin 256) :
    rProb e z (ix4 b h i j) = Ideal.div (e (ix4 b h i j)) (z (ix3 b h i)) := by
  have h0 := rAny_apply i
  pointwise [rProb]
  rw [h0]
  rfl

theorem rOut_apply (p : FVec Ideal S2x32x256x256 .f32) (v : FVec Ideal S2x256x32x64 .f32) (wo : FVec Ideal S2048x512 .f32)
    (b : Fin 2) (i : Fin 256) (o : Fin 512) :
    rOut p v wo (ix3 b i o) = ∑ n : Fin 2048,
      ((∑ j : Fin 256, v (ix4 b j ⟨n.val / 64, by omega⟩ ⟨n.val % 64, by omega⟩) * p (ix4 b ⟨n.val / 64, by omega⟩ i j)) *
        wo (ix2 n o) : EReal) := by
  pointwise [rOut]

end Cert.Ref

end
-- ==== Proof.Value.Join.lean ====
/- The reference's result is the sum of the devices' partial products, for real inputs, query weights and keys. -/
module

public import proofs.«01_k».proof.Proof.Value.Rows
public import proofs.«01_k».proof.Proof.Value.Reads

@[expose] public section

set_option maxRecDepth 16384

noncomputable section

namespace Cert.Join

open Idealize.ShloMosaic
open Cert.ReferenceIdeal Cert.Ref Cert.Value

/-- A real number among the extended ones. -/
def IsReal (x : EReal) : Prop := ∃ r : ℝ, x = (r : EReal)

theorem IsReal.mul {x y : EReal} (hx : IsReal x) (hy : IsReal y) : IsReal (x * y) := by
  obtain ⟨r, rfl⟩ := hx
  obtain ⟨t, rfl⟩ := hy
  exact ⟨r * t, (EReal.coe_mul r t).symm⟩

theorem IsReal.sum {ι : Type} [Fintype ι] {f : ι → EReal} (h : ∀ i, IsReal (f i)) : IsReal (∑ i, f i) := by
  choose r hr using h
  exact ⟨∑ i, r i, by rw [coe_sum]; exact Finset.sum_congr rfl fun i _ => hr i⟩

theorem IsReal.select {x y : EReal} (c : BitVec 1) (hx : IsReal x) (hy : IsReal y) : IsReal (Scalar.select c x y) := by
  unfold Scalar.select
  split <;> assumption

theorem isReal_scale : IsReal (Ideal.ofBits .f32 0x3E000000#32) := ofBits_real _ (by decide)
theorem isReal_neg : IsReal (Ideal.ofBits .f32 0xCE6E6B28#32) := ofBits_real _ (by decide)

/-- Scaling the queries or the scores is the same over the reals. -/
theorem scale_eq {n : ℕ} (q k : Fin n → EReal) (c : EReal) (hq : ∀ e, IsReal (q e)) (hk : ∀ e, IsReal (k e)) (hc : IsReal c) :
    ∑ e, q e * c * k e = (∑ e, q e * k e) * c := by
  choose a ha using hq
  choose b hb using hk
  obtain ⟨r, rfl⟩ := hc
  have h1 : ∑ e, q e * (r : EReal) * k e = ((∑ e, a e * r * b e : ℝ) : EReal) := by
    rw [coe_sum]
    exact Finset.sum_congr rfl fun e _ => by rw [ha, hb, EReal.coe_mul, EReal.coe_mul]
  have h2 : ∑ e, q e * k e = ((∑ e, a e * b e : ℝ) : EReal) := by
    rw [coe_sum]
    exact Finset.sum_congr rfl fun e _ => by rw [ha, hb, EReal.coe_mul]
  rw [h1, h2, ← EReal.coe_mul, Finset.sum_mul]
  exact congrArg _ (Finset.sum_congr rfl fun e _ => mul_right_comm _ _ _)

/-- The reference's attention of one head at a query, from that query's real scores. -/
theorem att_eq (s : FVec Ideal S2x32x256x256 .f32) (v : Fin 256 → EReal) (b : Fin 2) (h : Fin 32) (i : Fin 256)
    (hs : ∀ j, IsReal (s (ix4 b h i j))) :
    ∑ j : Fin 256, v j * (rProb (rExp s (rMax s)) (rSum (rExp s (rMax s))) (ix4 b h i j) : EReal) =
      Ideal.div (∑ j : Fin 256, Ideal.exp (s (ix4 b h i j)) * v j) (∑ j : Fin 256, Ideal.exp (s (ix4 b h i j))) := by
  choose t ht using hs
  obtain ⟨M, hM⟩ := fold_max_real (n := 255) t
  have hmax : rMax s (ix3 b h i) = (M : EReal) := by
    rw [rMax_apply]
    simp only [ht]
    exact hM
  simp only [rProb_apply, rSum_apply, rExp_apply, hmax, ht]
  exact (softmax_eq (n := 255) t M v).symm

variable (x : FVec Ideal S2x256x512 .f32) (wq : FVec Ideal S512x2048 .f32) (k v : FVec Ideal S2x256x32x64 .f32)
  (wo : FVec Ideal S2048x512 .f32)

theorem isReal_query (hx : ∀ i, IsReal (x i)) (hwq : ∀ i, IsReal (wq i)) (b : Fin 2) (i : Fin 256) (n : Fin 2048) :
    IsReal (rQ x wq (ix3 b i n)) := by
  rw [rQ_apply]
  exact IsReal.sum fun e => (hx _).mul (hwq _)

theorem isReal_score (hx : ∀ i, IsReal (x i)) (hwq : ∀ i, IsReal (wq i)) (hk : ∀ i, IsReal (k i)) (b : Fin 2) (h : Fin 32)
    (i j : Fin 256) : IsReal (rScore (rQ x wq) k (ix4 b h i j)) := by
  rw [rScore_apply]
  exact IsReal.select _ ((IsReal.sum fun e => (isReal_query x wq hx hwq b i _).mul (hk _)).mul isReal_scale) isReal_neg

/-- The reference's result at an index: per output-weight row the attention of its head. -/
theorem ref_apply (hx : ∀ i, IsReal (x i)) (hwq : ∀ i, IsReal (wq i)) (hk : ∀ i, IsReal (k i)) (b : Fin 2) (i : Fin 256) (o : Fin 512) :
    ref x wq k v wo (ix3 b i o) = ∑ n : Fin 2048,
      (Ideal.div
        (∑ j : Fin 256, Ideal.exp (rScore (rQ x wq) k (ix4 b ⟨n.val / 64, by omega⟩ i j)) *
          v (ix4 b j ⟨n.val / 64, by omega⟩ ⟨n.val % 64, by omega⟩))
        (∑ j : Fin 256, Ideal.exp (rScore (rQ x wq) k (ix4 b ⟨n.val / 64, by omega⟩ i j))) * wo (ix2 n o) : EReal) := by
  unfold ref
  rw [rOut_apply]
  refine Finset.sum_congr rfl fun n _ => congrArg (· * (wo (ix2 n o) : EReal)) ?_
  exact att_eq (rScore (rQ x wq) k) (fun j => v (ix4 b j ⟨n.val / 64, by omega⟩ ⟨n.val % 64, by omega⟩)) b _ i
    fun j => isReal_score x wq k hx hwq hk b _ i j

/-- A device's score is the reference's, of the head it stands for. -/
theorem score_eq (hx : ∀ i, IsReal (x i)) (hwq : ∀ i, IsReal (wq i)) (hk : ∀ i, IsReal (k i)) (b : Fin 2) (i j : Fin 256)
    (c : Fin 8) (h : Fin 4) (q : Cert.KernelIdeal.S512x256.Idx → Elt Ideal .f32) (kk : Cert.KernelIdeal.S2x256x256.Idx → Elt Ideal .f32)
    (hq : ∀ (e : Fin 512) (n : Fin 256), q (ix2 e n) = wq (ix2 e ⟨256 * c.val + n.val, by omega⟩))
    (hkk : ∀ (j n : Fin 256) (h : Fin 32) (d : Fin 64), 256 * c.val + n.val = 64 * h.val + d.val → kk (ix3 b j n) = k (ix4 b j h d))
    (g : Fin 32) (hg : g.val = 4 * c.val + h.val) :
    score (fun i e => qry x q b i ⟨64 * h.val + e.val, by omega⟩) (fun j e => kk (ix3 b j ⟨64 * h.val + e.val, by omega⟩)) i j =
      rScore (rQ x wq) k (ix4 b g i j) := by
  rw [rScore_apply]
  unfold score
  refine congrArg (fun z => Scalar.select (bit i j) z _) ?_
  rw [← scale_eq _ _ _ (fun e => isReal_query x wq hx hwq b i _) (fun e => hk _) isReal_scale]
  refine Finset.sum_congr rfl fun e _ => ?_
  have h1 : kk (ix3 b j ⟨64 * h.val + e.val, by omega⟩) = k (ix4 b j g e) := hkk j _ g e (by dsimp only; omega)
  have h2 : ∑ d : Fin 512, (x (ix3 b i d) * q (ix2 d ⟨64 * h.val + e.val, by omega⟩) : EReal) =
      rQ x wq (ix3 b i ⟨64 * g.val + e.val, by omega⟩) := by
    rw [rQ_apply]
    refine Finset.sum_congr rfl fun d _ => ?_
    rw [hq]
    exact congrArg (fun n => (x (ix3 b i d) * wq (ix2 d n) : EReal)) (Fin.ext (by dsimp only; omega))
  dsimp only
  rw [h1]
  unfold qry
  rw [h2]

/-- The reference's result at an index is the sum of the devices' partial products there. -/
theorem ref_eq_sum (hx : ∀ i, IsReal (x i)) (hwq : ∀ i, IsReal (wq i)) (hk : ∀ i, IsReal (k i))
    (q : Fin 8 → Cert.KernelIdeal.S512x256.Idx → Elt Ideal .f32) (kk vv : Fin 8 → Cert.KernelIdeal.S2x256x256.Idx → Elt Ideal .f32)
    (w : Fin 8 → Cert.KernelIdeal.S256x512.Idx → Elt Ideal .f32) (b : Fin 2)
    (hq : ∀ (c : Fin 8) (e : Fin 512) (n : Fin 256), q c (ix2 e n) = wq (ix2 e ⟨256 * c.val + n.val, by omega⟩))
    (hkk : ∀ (c : Fin 8) (j n : Fin 256) (h : Fin 32) (d : Fin 64),
      256 * c.val + n.val = 64 * h.val + d.val → kk c (ix3 b j n) = k (ix4 b j h d))
    (hvv : ∀ (c : Fin 8) (j n : Fin 256) (h : Fin 32) (d : Fin 64),
      256 * c.val + n.val = 64 * h.val + d.val → vv c (ix3 b j n) = v (ix4 b j h d))
    (hw : ∀ (c : Fin 8) (n : Fin 256) (o : Fin 512), w c (ix2 n o) = wo (ix2 ⟨256 * c.val + n.val, by omega⟩ o))
    (i : Fin 256) (o : Fin 512) :
    ∑ c : Fin 8, partial_ x (q c) (kk c) (vv c) (w c) b i o = ref x wq k v wo (ix3 b i o) := by
  rw [ref_apply x wq k v wo hx hwq hk, sum_cols]
  refine Finset.sum_congr rfl fun c _ => ?_
  unfold partial_
  refine Finset.sum_congr rfl fun h _ => Finset.sum_congr rfl fun d _ => ?_
  have hn : 256 * c.val + (64 * h.val + d.val) = 64 * (4 * c.val + h.val) + d.val := by omega
  have hr : (⟨(256 * c.val + (64 * h.val + d.val)) % 64, by omega⟩ : Fin 64) = d := Fin.ext (by dsimp only; omega)
  have hS := fun j => score_eq x wq k hx hwq hk b i j c h (q c) (kk c) (hq c) (hkk c)
    ⟨(256 * c.val + (64 * h.val + d.val)) / 64, by omega⟩ (by dsimp only; omega)
  have hV := fun j => hvv c j ⟨64 * h.val + d.val, by omega⟩ ⟨(256 * c.val + (64 * h.val + d.val)) / 64, by omega⟩ d
    (by dsimp only; omega)
  rw [hw]
  refine congrArg (· * (wo (ix2 _ o) : EReal)) ?_
  unfold hd head
  dsimp only
  simp only [hS, hV, hr]

end Cert.Join

end
-- ==== Proof.Value.Sum.lean ====
/- The kernel's result at an index: the eight partial products summed. -/
module

public import Idealize.ShloMosaic.Lib.Pointwise
public import proofs.«01_k».proof.Proof.Value.Rows

@[expose] public section

set_option maxRecDepth 16384

noncomputable section

namespace Cert.Value

open Idealize.ShloMosaic
open Cert.KernelIdeal Cert.KernelIdeal.Gen Cert.KernelIdeal.Hand

variable [Cert.KernelIdeal.Facts]

/-- The slot `o` of what lands on a device is its block of the device `o` before it. -/
theorem ld_land (P : Dev nD → S2x256x512.Idx → Elt Ideal .f32) (c o : Fin 8) (b : Fin 2) (r : Fin 32) (n : Fin 512) :
    ld (F := Ideal) (landR P c) (slotRect o) (ix4 0 b r n) = P ((c - o : Fin 8)) (rowAt c (ix3 b r n)) := by
  have e : (slotRect o).emb (ix4 0 b r n) = slotAt o (ix3 b r n) := by
    refine congrArg (slotRect o).emb (funext fun a => ?_)
    match a with
    | 0 => rfl
    | 1 => rfl
    | 2 => rfl
    | 3 => rfl
  show landR P c ((slotRect o).emb (ix4 0 b r n)) = _
  rw [e]
  unfold landR
  rw [slotOf_slotAt, inSlot_slotAt]

theorem sub_inj : ∀ c a b : Fin 8, c - a = c - b → a = b := by decide
theorem sub_zero8 : ∀ c : Fin 8, c - 0 = c := by decide

theorem acc_apply (P : Dev nD → S2x256x512.Idx → Elt Ideal .f32) (c : Fin 8) (j : S2x32x512.Idx) :
    acc (F := Ideal) P c j = ∑ d : Fin 8, (P d (rowAt c j) : EReal) := by
  have h1 : ∑ d : Fin 8, (P d (rowAt c j) : EReal) = ∑ o : Fin 8, (P (c - o : Fin 8) (rowAt c j) : EReal) :=
    (Fintype.sum_bijective (fun o : Fin 8 => c - o) (Finite.injective_iff_bijective.mp fun a b => sub_inj c a b)
      (fun o => (P (c - o : Fin 8) (rowAt c j) : EReal)) (fun d => (P d (rowAt c j) : EReal)) fun _ => rfl).symm
  rw [h1, Fin.sum_univ_eight, sub_zero8]
  idx_vars j
  pointwise [acc, k0_pay21, k0_pay22, k0_pay23, k0_pay24]
  simp only [ld_land]
  rfl

/-- The kernel's result at an index. -/
theorem gath_apply (P : Dev nD → S2x256x512.Idx → Elt Ideal .f32) (i : S2x256x512.Idx) :
    gath (F := Ideal) P i = ∑ d : Fin 8, (P d i : EReal) := by
  unfold gath
  rw [acc_apply, rowAt_inRow (mem_rowBlk.mpr rfl)]

end Cert.Value

end
-- ==== Proof.Value.Slices.lean ====
/- The arrays a device's launch reads, in terms of the arguments: the host operations cut its 256 columns out of the keys and
   the values. -/
module

public import Idealize.ShloMosaic.Lib.Pointwise
public import proofs.«01_k».proof.Proof.Value.Sum
public import proofs.«01_k».proof.Proof.KernelIdeal.Region

@[expose] public section

set_option maxRecDepth 16384

noncomputable section

namespace Cert.Value

open Idealize.ShloMosaic Idealize.ShloMosaic.TcCoe
open Cert.KernelIdeal Cert.KernelIdeal.Gen Cert.KernelIdeal.Hand

variable [Cert.KernelIdeal.Facts]
variable (m : (ℓ : Loc nD τ sig) → Buf (Elt Ideal) ℓ) (c : Dev nD)

theorem xA_eq : xA m c = m ((c.tc : Thread nD τ).loc main_arg0) := V1_of m c main_arg0 (by decide)
theorem qA_eq : qA m c = m ((c.tc : Thread nD τ).loc main_arg1) := V1_of m c main_arg1 (by decide)
theorem wA_eq : wA m c = m ((c.tc : Thread nD τ).loc main_arg4) := V1_of m c main_arg4 (by decide)

/-- Where a device's columns start. -/
theorem start_word (c : Fin 8) : BitVec.toInt (select
    (cmpi CmpIPredicate.slt
      (muli (id (Host.remui (Host.divui (constantI S_ 32 (Dev.word c)) (constantI S_ 32 1#32)) (constantI S_ 32 8#32))) (constantI S_ 32 256#32))
      (constantI S_ 32 0#32))
    (addi
      (muli (id (Host.remui (Host.divui (constantI S_ 32 (Dev.word c)) (constantI S_ 32 1#32)) (constantI S_ 32 8#32))) (constantI S_ 32 256#32))
      (constantI S_ 32 2048#32))
    (muli (id (Host.remui (Host.divui (constantI S_ 32 (Dev.word c)) (constantI S_ 32 1#32)) (constantI S_ 32 8#32))) (constantI S_ 32 256#32))
    (Shape.Idx.first h_S_)) = 256 * (c.val : Int) := by
  pointwise
  revert c
  decide

set_option maxHeartbeats 2000000 in
theorem kA_eq : kA' m c = Host.dynamicSlice S2x256x256
    (shapeCast S2x256x2048 (m ((c.tc : Thread nD τ).loc main_arg2)) shapeCasts_S2x256x32x64_S2x256x2048)
    (![0, 0, 256 * (c.val : Int)] : Fin 3 → Int) sliceFits_S2x256x2048_S2x256x256 := by
  unfold kA'
  dsimp only [V1, hostOps0]
  after_results_simp
  refine congrArg (fun st => Host.dynamicSlice S2x256x256
    (shapeCast S2x256x2048 (m ((c.tc : Thread nD τ).loc main_arg2)) shapeCasts_S2x256x32x64_S2x256x2048) st
    sliceFits_S2x256x2048_S2x256x256) (funext fun k => ?_)
  match k with
  | 0 => rfl
  | 1 => rfl
  | 2 =>
    dsimp only [Matrix.cons_val]
    after_results_simp
    exact start_word c
set_option maxHeartbeats 2000000 in
theorem vA_eq : vA m c = Host.dynamicSlice S2x256x256
    (shapeCast S2x256x2048 (m ((c.tc : Thread nD τ).loc main_arg3)) shapeCasts_S2x256x32x64_S2x256x2048)
    (![0, 0, 256 * (c.val : Int)] : Fin 3 → Int) sliceFits_S2x256x2048_S2x256x256 := by
  unfold vA
  dsimp only [V1, hostOps0]
  after_results_simp
  refine congrArg (fun st => Host.dynamicSlice S2x256x256
    (shapeCast S2x256x2048 (m ((c.tc : Thread nD τ).loc main_arg3)) shapeCasts_S2x256x32x64_S2x256x2048) st
    sliceFits_S2x256x2048_S2x256x256) (funext fun k => ?_)
  match k with
  | 0 => rfl
  | 1 => rfl
  | 2 =>
    dsimp only [Matrix.cons_val]
    after_results_simp
    exact start_word c

/-- The slice of a device's 256 columns, of keys or values whose heads are laid side by side. -/
theorem slice_apply (x : S2x256x32x64.Idx → Elt Ideal .f32) (b : Fin 2) (j n : Fin 256) (h : Fin 32) (d : Fin 64)
    (e : 256 * c.val + n.val = 64 * h.val + d.val) :
    Host.dynamicSlice S2x256x256 (shapeCast S2x256x2048 x shapeCasts_S2x256x32x64_S2x256x2048)
      (![0, 0, 256 * (c.val : Int)] : Fin 3 → Int) sliceFits_S2x256x2048_S2x256x256 (ix3 b j n) = x (ix4 b j h d) := by
  pointwise
  refine congrArg x (funext fun a => Fin.ext ?_)
  have hc : c.val < 8 := c.isLt
  match a with
  | 0 => exact Nat.zero_add _
  | 1 => exact Nat.zero_add _
  | 2 =>
    show ((min (max (256 * (c.val : Int)) 0) ((1792 : ℕ) : Int)).toNat + n.val) / 64 = h.val
    omega
  | 3 =>
    show ((min (max (256 * (c.val : Int)) 0) ((1792 : ℕ) : Int)).toNat + n.val) % 64 = d.val
    omega

end Cert.Value

end
-- ==== Proof.Value.Result.lean ====
/- The kernel's result on each device is the reference's, from related arguments whose inputs, query weights and keys are finite. -/
module

public import proofs.«01_k».proof.Proof.Value.Join
public import proofs.«01_k».proof.Proof.Value.Slices
public import proofs.«01_k».proof.Defs
public import Idealize.ShloMosaic.Lib.LayoutAt

@[expose] public section

set_option maxRecDepth 16384

noncomputable section

namespace Cert.Join

open Idealize.ShloMosaic Idealize.ShloMosaic.TcCoe
open Cert.Value Cert.KernelIdeal.Hand

theorem kernel_facts : Cert.Pre_finite_KernelIdeal.Facts := ⟨by decide, by decide, by decide⟩
theorem reference_facts : Cert.Pre_finite_ReferenceIdeal.Facts := ⟨by decide, by decide, by decide⟩

/-- The word finite numbers lie below is the greatest value. -/
theorem ofBits_top : Ideal.ofBits .f32 0x7F800000#32 = (⊤ : EReal) := by
  show Ideal.ieee 8 23 0x7F800000#32 = ⊤
  unfold Ideal.ieee
  simp

/-- A number whose magnitude lies below the infinite word is real. -/
theorem isReal_of_finite {x : EReal} (h : Ideal.cmp .olt (max x (-x)) (Ideal.ofBits .f32 0x7F800000#32) = 1#1) : IsReal x :=
  isReal_iff (by rw [← ofBits_top]; exact h)

section Finite

variable [Cert.Pre_finite_KernelIdeal.Facts]
open Cert.Pre_finite_KernelIdeal

/-- What the precondition says of its three arrays. -/
theorem finite_apply (x : FVec Ideal S2x256x512 .f32) (wq : FVec Ideal S512x256 .f32) (k v : FVec Ideal S2x256x32x64 .f32)
    (wo : FVec Ideal S256x512 .f32)
    (h : (fn (F := Ideal) x wq k v wo).1 = (fun _ => 1#1) ∧ (fn (F := Ideal) x wq k v wo).2.1 = (fun _ => 1#1)
      ∧ (fn (F := Ideal) x wq k v wo).2.2 = (fun _ => 1#1)) :
    (∀ i, IsReal (x i)) ∧ (∀ i, IsReal (wq i)) ∧ ∀ i, IsReal (k i) := by
  obtain ⟨h0, h1, h2⟩ := h
  exact ⟨fun i => isReal_of_finite (congrFun h0 i), fun i => isReal_of_finite (congrFun h1 i),
    fun i => isReal_of_finite (congrFun h2 i)⟩

end Finite

/-- Device `c`'s column `n` of the query weights is column `256 c + n` of the whole. -/
theorem column_block (wq : (⟨2, ![512, 2048]⟩ : Shape).Idx → EReal) (c : Fin 8) (e : Fin 512) (n : Fin 256) :
    (Layout.block ⟨2, ![512, 256]⟩ ⟨2, ![512, 2048]⟩ 1 8 c wq) (ix2 e n) = wq (ix2 e ⟨256 * c.val + n.val, by omega⟩) := by
  rw [Layout.block_apply]
  refine congrArg wq ?_
  rw [eq_ix2 (Layout.Tiles.idx _ c (ix2 e n))]
  refine congrArg (ix2 e) (Fin.ext ?_)
  show c.val * 256 + n.val = 256 * c.val + n.val
  omega

/-- Device `c`'s row `n` of the output weights is row `256 c + n` of the whole. -/
theorem row_block (wo : (⟨2, ![2048, 512]⟩ : Shape).Idx → EReal) (c : Fin 8) (n : Fin 256) (o : Fin 512) :
    (Layout.block ⟨2, ![256, 512]⟩ ⟨2, ![2048, 512]⟩ 0 8 c wo) (ix2 n o) = wo (ix2 ⟨256 * c.val + n.val, by omega⟩ o) := by
  rw [Layout.block_apply]
  refine congrArg wo ?_
  rw [eq_ix2 (Layout.Tiles.idx _ c (ix2 n o))]
  refine congrArg (fun r => ix2 r o) (Fin.ext ?_)
  show c.val * 256 + n.val = 256 * c.val + n.val
  omega

/-- A column of the whole query weights lies in some device's block. -/
theorem isReal_of_blocks {wq : (⟨2, ![512, 2048]⟩ : Shape).Idx → EReal}
    (h : ∀ (c : Fin 8) (e : Fin 512) (n : Fin 256), IsReal ((Layout.block ⟨2, ![512, 256]⟩ ⟨2, ![512, 2048]⟩ 1 8 c wq) (ix2 e n)))
    (i : (⟨2, ![512, 2048]⟩ : Shape).Idx) : IsReal (wq i) := by
  obtain ⟨e, n, rfl⟩ : ∃ (e : Fin 512) (n : Fin 2048), i = ix2 e n := ⟨i 0, i 1, eq_ix2 i⟩
  have h2 := h ⟨n.val / 256, by omega⟩ e ⟨n.val % 256, by omega⟩
  rw [column_block] at h2
  have hn : (⟨256 * (n.val / 256) + n.val % 256, by omega⟩ : Fin 2048) = n := Fin.ext (by dsimp only; omega)
  exact hn ▸ h2

variable [Cert.KernelIdeal.Facts] [Cert.Pre_finite_KernelIdeal.Facts]

open Cert.KernelIdeal in
/-- Every device's gathered result is the reference's. -/
theorem result_eq (m : (ℓ : Loc nD τ sig) → Buf (Elt Ideal) ℓ) (hm : Cert.Pre_KernelIdeal_finite_KernelIdeal m)
    (x : FVec Ideal Cert.ReferenceIdeal.S2x256x512 .f32) (wq : FVec Ideal Cert.ReferenceIdeal.S512x2048 .f32)
    (k v : FVec Ideal Cert.ReferenceIdeal.S2x256x32x64 .f32) (wo : FVec Ideal Cert.ReferenceIdeal.S2048x512 .f32)
    (h : ∀ c : Dev nD,
      m ((c.tc : Thread nD τ).loc main_arg0) = x
      ∧ m ((c.tc : Thread nD τ).loc main_arg1) = Layout.block ⟨2, ![512, 256]⟩ ⟨2, ![512, 2048]⟩ 1 8 c wq
      ∧ m ((c.tc : Thread nD τ).loc main_arg2) = k
      ∧ m ((c.tc : Thread nD τ).loc main_arg3) = v
      ∧ m ((c.tc : Thread nD τ).loc main_arg4) = Layout.block ⟨2, ![256, 512]⟩ ⟨2, ![2048, 512]⟩ 0 8 c wo) :
    gath (F := Ideal) (PP m) = Cert.Ref.ref x wq k v wo := by
  have hf := fun c => finite_apply _ _ _ _ _ (hm c)
  have hx : ∀ i, IsReal (x i) := fun i => (h 0).1 ▸ (hf 0).1 i
  have hk : ∀ i, IsReal (k i) := fun i => (h 0).2.2.1 ▸ (hf 0).2.2 i
  have hwq : ∀ i, IsReal (wq i) := isReal_of_blocks fun c e n => (h c).2.1 ▸ (hf c).2.1 (ix2 e n)
  funext i
  obtain ⟨b, r, o, rfl⟩ : ∃ b r o, i = ix3 b r o := ⟨i 0, i 1, i 2, eq_ix3 i⟩
  rw [gath_apply]
  rw [← ref_eq_sum x wq k v wo hx hwq hk (fun c => qA m c) (fun c => kA' m c) (fun c => vA m c) (fun c => wA m c) b
    (fun c e n => by rw [qA_eq, (h c).2.1]; exact column_block wq c e n)
    (fun c j n g d e => by rw [kA_eq, (h c).2.2.1]; exact slice_apply c k b j n g d e)
    (fun c j n g d e => by rw [vA_eq, (h c).2.2.2.1]; exact slice_apply c v b j n g d e)
    (fun c n o => by rw [wA_eq, (h c).2.2.2.2]; exact row_block wo c n o) r o]
  refine Finset.sum_congr rfl fun c _ => ?_
  refine (part_apply _ _ _ _ _ b r o).trans ?_
  rw [xA_eq, (h c).1]

end Cert.Join

end
-- ==== Proof.lean ====
/- The claims about the kernel and its reference, joined. The kernel's runs are `run_main` of Proof/Kernel/Main.lean and
   Proof/KernelIdeal/Main.lean; the reference's run is the generated one; their results are equal by Proof/Value/Result.lean. -/
module

public import proofs.«01_k».proof.Defs
public import proofs.«01_k».proof.Proof.Kernel.Main
public import proofs.«01_k».proof.Proof.KernelIdeal.Main
public import proofs.«01_k».proof.Proof.Gen.ReferenceIdeal.Run
public import proofs.«01_k».proof.Proof.Value.Result
public import Idealize.ShloMosaic.Lib.Quiescent

@[expose] public section

noncomputable section

namespace Cert.Proof

open Idealize.ShloMosaic Idealize.SL.Sem

/-- The kernel runs, leaves its arguments as they were and every semaphore counter at zero. -/
theorem frame_kernel : Cert.quiescent_Kernel := fun m ρ _ =>
  (θ_run Cert.Kernel.defs _ _).mono (fun _ h => ⟨fun c => (h.1 c).2, h.2⟩) (Cert.Kernel.Hand.run_main m ρ)

/-- So does its idealization. -/
theorem frame_ideal : Cert.quiescent_KernelIdeal := fun m ρ _ =>
  (θ_run Cert.KernelIdeal.defs _ _).mono (fun _ h => ⟨fun c => (h.1 c).2, h.2⟩) (Cert.KernelIdeal.Hand.run_main m ρ)

/-- So does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- From finite inputs, query weights and keys, every device's result is the reference's. -/
theorem values [Cert.Pre_finite_KernelIdeal.Facts] : Cert.algebraic_KernelIdeal_ReferenceIdeal_pre_finite_KernelIdeal := by
  intro m g m' g' hm h
  refine ⟨Cert.ReferenceIdeal.Value.res_main_v44 (F := Ideal) m' 0, ?_, ?_⟩
  · refine (θ_run Cert.KernelIdeal.defs _ _).mono (fun r e c => ⟨(e.1 c).1.trans ?_, (e.1 c).2⟩) (Cert.KernelIdeal.Hand.run_main m g)
    exact (Cert.Join.result_eq m hm _ _ _ _ _ h).trans (Cert.Ref.result_eq m' 0).symm
  · exact (θ_run Cert.ReferenceIdeal.defs _ _).mono (fun r e => e 0) (Cert.ReferenceIdeal.Value.run m' g')

theorem claim : Cert.Claim :=
  ⟨Cert.Kernel.Gen.facts, Cert.KernelIdeal.Gen.facts, Cert.ReferenceIdeal.Gen.facts,
    Cert.Join.kernel_facts, Cert.Join.reference_facts,
    frame_kernel, frame_ideal, fun m ρ _ => frame_ideal m ρ trivial, frame_reference, fun m ρ _ => frame_reference m ρ trivial,
    trivial, haveI := Cert.Join.kernel_facts; values⟩

end Cert.Proof

end
